-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x_KernelIdeal [hPre_finite_x_KernelIdeal : Cert.Pre_finite_x_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x_ReferenceIdeal [hPre_finite_x_ReferenceIdeal : Cert.Pre_finite_x_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_x_KernelIdeal [hKernelIdeal : Cert.KernelIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_x_ReferenceIdeal [hReferenceIdeal : Cert.ReferenceIdeal.Facts] [hPre_finite_x_ReferenceIdeal : Cert.Pre_finite_x_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_x_KernelIdeal [hKernelIdeal : Cert.KernelIdeal.Facts] [hReferenceIdeal : Cert.ReferenceIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x_KernelIdeal m →
    (∀ c : Dev Cert.KernelIdeal.nD,
      m ((c.tc : Thread Cert.KernelIdeal.nD Cert.KernelIdeal.τ).loc Cert.KernelIdeal.main_arg0) = Layout.block ⟨3, ![2, 4096, 512]⟩ ⟨3, ![2, 4096, 4096]⟩ 2 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 512]⟩ ⟨2, ![128, 4096]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 512]⟩ ⟨2, ![128, 4096]⟩ 1 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 4096, 512]⟩ ⟨3, ![2, 4096, 4096]⟩ 2 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_x_KernelIdeal : Cert.Pre_finite_x_KernelIdeal.Facts) (hPre_finite_x_ReferenceIdeal : Cert.Pre_finite_x_ReferenceIdeal.Facts),
    quiescent_Kernel (hKernel := hKernel)
    ∧ quiescent_KernelIdeal (hKernelIdeal := hKernelIdeal)
    ∧ quiescent_KernelIdeal_pre_finite_x_KernelIdeal (hKernelIdeal := hKernelIdeal) (hPre_finite_x_KernelIdeal := hPre_finite_x_KernelIdeal)
    ∧ quiescent_ReferenceIdeal (hReferenceIdeal := hReferenceIdeal)
    ∧ quiescent_ReferenceIdeal_pre_finite_x_ReferenceIdeal (hReferenceIdeal := hReferenceIdeal) (hPre_finite_x_ReferenceIdeal := hPre_finite_x_ReferenceIdeal)
    ∧ preserves_Kernel_KernelIdeal
    ∧ algebraic_KernelIdeal_ReferenceIdeal_pre_finite_x_KernelIdeal (hKernelIdeal := hKernelIdeal) (hReferenceIdeal := hReferenceIdeal) (hPre_finite_x_KernelIdeal := hPre_finite_x_KernelIdeal)
-- ==== Pre_finite_x_KernelIdeal.lean ====
abbrev S2x4096x512 : Shape := ⟨3, ![2, 4096, 512]⟩
abbrev S2x128 : Shape := ⟨2, ![2, 128]⟩
abbrev S128x512 : Shape := ⟨2, ![128, 512]⟩
abbrev S_ : Shape := ⟨0, ![]⟩

class Facts : Prop where
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel

variable [Facts]

def fn {F : FTy → Type} [FloatOps F] (main_arg0 : FVec F S2x4096x512 .f32) (main_arg1 : FVec F S2x128 .f32) (main_arg2 : FVec F S128x512 .f32) (main_arg3 : FVec F S128x512 .f32) : IVec S_ 1 :=
  let main_v0 : FVec F S2x4096x512 .f32 := Host.absf main_arg0
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  let main_c : IVec S_ 1 := constantI S_ 1 1#1
  let main_v3 : IVec S_ 1 := (fun x v => Host.reduce IntOp.andi x v reducesTo_S2x4096x512_S_d0_1_2 h_S_) main_v2 main_c
  main_v3
-- ==== Pre_finite_x_ReferenceIdeal.lean ====
abbrev S2x4096x4096 : Shape := ⟨3, ![2, 4096, 4096]⟩
abbrev S2x128 : Shape := ⟨2, ![2, 128]⟩
abbrev S128x4096 : Shape := ⟨2, ![128, 4096]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel

variable [Facts]

def fn {F : FTy → Type} [FloatOps F] (main_arg0 : FVec F S2x4096x4096 .f32) (main_arg1 : FVec F S2x128 .f32) (main_arg2 : FVec F S128x4096 .f32) (main_arg3 : FVec F S128x4096 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  main_v3
-- ==== Kernel.lean ====
abbrev S2x4096x512 : Shape := ⟨3, ![2, 4096, 512]⟩
abbrev S2x128 : Shape := ⟨2, ![2, 128]⟩
abbrev S128x512 : Shape := ⟨2, ![128, 512]⟩
abbrev S4x4096 : Shape := ⟨2, ![4, 4096]⟩
abbrev S7x4x4096 : Shape := ⟨3, ![7, 4, 4096]⟩
abbrev S7x4 : Shape := ⟨2, ![7, 4]⟩
abbrev S_ : Shape := ⟨0, ![]⟩
abbrev S2x1024x512 : Shape := ⟨3, ![2, 1024, 512]⟩
abbrev S2x1024 : Shape := ⟨2, ![2, 1024]⟩
abbrev S1x1 : Shape := ⟨2, ![1, 1]⟩
abbrev S1x4x1024 : Shape := ⟨3, ![1, 4, 1024]⟩
abbrev S4x1024 : Shape := ⟨2, ![4, 1024]⟩
abbrev S2x512 : Shape := ⟨2, ![2, 512]⟩
abbrev S2x1x512 : Shape := ⟨3, ![2, 1, 512]⟩
abbrev S2x1024x1 : Shape := ⟨3, ![2, 1024, 1]⟩

abbrev nBuf : Space → Nat
  | .hbm => 5
  | .vmem => 7
  | .smem => 0
  | _ => 0

abbrev bufTy : (tb : Table) → Fin (tcTables nBuf tb) → BufTy
  | .hbm, ⟨0, _⟩ => ⟨S2x4096x512, .f32⟩
  | .hbm, ⟨1, _⟩ => ⟨S2x128, .f32⟩
  | .hbm, ⟨2, _⟩ => ⟨S128x512, .f32⟩
  | .hbm, ⟨3, _⟩ => ⟨S128x512, .f32⟩
  | .hbm, ⟨4, _⟩ => ⟨S2x4096x512, .f32⟩
  | .local _ .vmem, ⟨0, _⟩ => ⟨S2x4096x512, .f32⟩
  | .local _ .vmem, ⟨1, _⟩ => ⟨S2x128, .f32⟩
  | .local _ .vmem, ⟨2, _⟩ => ⟨S128x512, .f32⟩
  | .local _ .vmem, ⟨3, _⟩ => ⟨S128x512, .f32⟩
  | .local _ .vmem, ⟨4, _⟩ => ⟨S2x4096x512, .f32⟩
  | .local _ .vmem, ⟨5, _⟩ => ⟨S4x4096, .f32⟩
  | .local _ .vmem, ⟨6, _⟩ => ⟨S7x4x4096, .f32⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  (ofTc nBuf bufTy 1 61 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_70 : BitVec 32 := 1#32
  let v106 : BitVec 32 := Scalar.subi v2 c1_i32_70
  let c8_i32_71 : BitVec 32 := 8#32
  let c0_i32_72 : BitVec 32 := 0#32
  let v107 : BitVec 1 := Scalar.cmpi .eq c8_i32_71 c0_i32_72
  let c1_i32_73 : BitVec 32 := 1#32
  let v108 : BitVec 32 := Scalar.select v107 c1_i32_73 c8_i32_71
  let v109 : BitVec 32 := Scalar.remsi v106 v108
  let c0_i32_75 : BitVec 32 := 0#32
  let v111 : BitVec 1 := Scalar.cmpi .slt v109 c0_i32_75
  let c0_i32_76 : BitVec 32 := 0#32
  let v112 : BitVec 1 := Scalar.cmpi .slt v108 c0_i32_76
  let v113 : BitVec 1 := Scalar.xori v111 v112
  let c0_i32_74 : BitVec 32 := 0#32
  let v110 : BitVec 1 := Scalar.cmpi .ne v109 c0_i32_74
  let v114 : BitVec 1 := Scalar.andi v113 v110
  let v115 : BitVec 32 := Scalar.addi v109 v108
  let v116 : BitVec 32 := Scalar.select v114 v115 v109
  let c1_i32_82 : BitVec 32 := 1#32
  let v117 : BitVec 32 := Scalar.muli v116 c1_i32_82
  let v118 : BitVec 32 := Scalar.addi c0_i32_83 v117
  v118.toNat
def k0_dev9 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_88 : BitVec 32 := 2#32
  let v126 : BitVec 32 := Scalar.subi v2 c2_i32_88
  let c8_i32_89 : BitVec 32 := 8#32
  let c0_i32_90 : BitVec 32 := 0#32
  let v127 : BitVec 1 := Scalar.cmpi .eq c8_i32_89 c0_i32_90
  let c1_i32_91 : BitVec 32 := 1#32
  let v128 : BitVec 32 := Scalar.select v127 c1_i32_91 c8_i32_89
  let v129 : BitVec 32 := Scalar.remsi v126 v128
  let c0_i32_93 : BitVec 32 := 0#32
  let v131 : BitVec 1 := Scalar.cmpi .slt v129 c0_i32_93
  let c0_i32_94 : BitVec 32 := 0#32
  let v132 : BitVec 1 := Scalar.cmpi .slt v128 c0_i32_94
  let v133 : BitVec 1 := Scalar.xori v131 v132
  let c0_i32_92 : BitVec 32 := 0#32
  let v130 : BitVec 1 := Scalar.cmpi .ne v129 c0_i32_92
  let v134 : BitVec 1 := Scalar.andi v133 v130
  let v135 : BitVec 32 := Scalar.addi v129 v128
  let v136 : BitVec 32 := Scalar.select v134 v135 v129
  let c1_i32_100 : BitVec 32 := 1#32
  let v137 : BitVec 32 := Scalar.muli v136 c1_i32_100
  let v138 : BitVec 32 := Scalar.addi c0_i32_101 v137
  v138.toNat
def k0_dev10 (d0 : Dev nD) : Nat :=
  let c0_i32_119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_106 : BitVec 32 := 3#32
  let v146 : BitVec 32 := Scalar.subi v2 c3_i32_106
  let c8_i32_107 : BitVec 32 := 8#32
  let c0_i32_108 : BitVec 32 := 0#32
  let v147 : BitVec 1 := Scalar.cmpi .eq c8_i32_107 c0_i32_108
  let c1_i32_109 : BitVec 32 := 1#32
  let v148 : BitVec 32 := Scalar.select v147 c1_i32_109 c8_i32_107
  let v149 : BitVec 32 := Scalar.remsi v146 v148
  let c0_i32_111 : BitVec 32 := 0#32
  let v151 : BitVec 1 := Scalar.cmpi .slt v149 c0_i32_111
  let c0_i32_112 : BitVec 32 := 0#32
  let v152 : BitVec 1 := Scalar.cmpi .slt v148 c0_i32_112
  let v153 : BitVec 1 := Scalar.xori v151 v152
  let c0_i32_110 : BitVec 32 := 0#32
  let v150 : BitVec 1 := Scalar.cmpi .ne v149 c0_i32_110
  let v154 : BitVec 1 := Scalar.andi v153 v150
  let v155 : BitVec 32 := Scalar.addi v149 v148
  let v156 : BitVec 32 := Scalar.select v154 v155 v149
  let c1_i32_118 : BitVec 32 := 1#32
  let v157 : BitVec 32 := Scalar.muli v156 c1_i32_118
  let v158 : BitVec 32 := Scalar.addi c0_i32_119 v157
  v158.toNat
def k0_dev11 (d0 : Dev nD) : Nat :=
  let c0_i32_137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_124 : BitVec 32 := 4#32
  let v166 : BitVec 32 := Scalar.subi v2 c4_i32_124
  let c8_i32_125 : BitVec 32 := 8#32
  let c0_i32_126 : BitVec 32 := 0#32
  let v167 : BitVec 1 := Scalar.cmpi .eq c8_i32_125 c0_i32_126
  let c1_i32_127 : BitVec 32 := 1#32
  let v168 : BitVec 32 := Scalar.select v167 c1_i32_127 c8_i32_125
  let v169 : BitVec 32 := Scalar.remsi v166 v168
  let c0_i32_129 : BitVec 32 := 0#32
  let v171 : BitVec 1 := Scalar.cmpi .slt v169 c0_i32_129
  let c0_i32_130 : BitVec 32 := 0#32
  let v172 : BitVec 1 := Scalar.cmpi .slt v168 c0_i32_130
  let v173 : BitVec 1 := Scalar.xori v171 v172
  let c0_i32_128 : BitVec 32 := 0#32
  let v170 : BitVec 1 := Scalar.cmpi .ne v169 c0_i32_128
  let v174 : BitVec 1 := Scalar.andi v173 v170
  let v175 : BitVec 32 := Scalar.addi v169 v168
  let v176 : BitVec 32 := Scalar.select v174 v175 v169
  let c1_i32_136 : BitVec 32 := 1#32
  let v177 : BitVec 32 := Scalar.muli v176 c1_i32_136
  let v178 : BitVec 32 := Scalar.addi c0_i32_137 v177
  v178.toNat
def k0_dev12 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_142 : BitVec 32 := 5#32
  let v186 : BitVec 32 := Scalar.subi v2 c5_i32_142
  let c8_i32_143 : BitVec 32 := 8#32
  let c0_i32_144 : BitVec 32 := 0#32
  let v187 : BitVec 1 := Scalar.cmpi .eq c8_i32_143 c0_i32_144
  let c1_i32_145 : BitVec 32 := 1#32
  let v188 : BitVec 32 := Scalar.select v187 c1_i32_145 c8_i32_143
  let v189 : BitVec 32 := Scalar.remsi v186 v188
  let c0_i32_147 : BitVec 32 := 0#32
  let v191 : BitVec 1 := Scalar.cmpi .slt v189 c0_i32_147
  let c0_i32_148 : BitVec 32 := 0#32
  let v192 : BitVec 1 := Scalar.cmpi .slt v188 c0_i32_148
  let v193 : BitVec 1 := Scalar.xori v191 v192
  let c0_i32_146 : BitVec 32 := 0#32
  let v190 : BitVec 1 := Scalar.cmpi .ne v189 c0_i32_146
  let v194 : BitVec 1 := Scalar.andi v193 v190
  let v195 : BitVec 32 := Scalar.addi v189 v188
  let v196 : BitVec 32 := Scalar.select v194 v195 v189
  let c1_i32_154 : BitVec 32 := 1#32
  let v197 : BitVec 32 := Scalar.muli v196 c1_i32_154
  let v198 : BitVec 32 := Scalar.addi c0_i32_155 v197
  v198.toNat
def k0_dev13 (d0 : Dev nD) : Nat :=
  let c0_i32_173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_160 : BitVec 32 := 6#32
  let v206 : BitVec 32 := Scalar.subi v2 c6_i32_160
  let c8_i32_161 : BitVec 32 := 8#32
  let c0_i32_162 : BitVec 32 := 0#32
  let v207 : BitVec 1 := Scalar.cmpi .eq c8_i32_161 c0_i32_162
  let c1_i32_163 : BitVec 32 := 1#32
  let v208 : BitVec 32 := Scalar.select v207 c1_i32_163 c8_i32_161
  let v209 : BitVec 32 := Scalar.remsi v206 v208
  let c0_i32_165 : BitVec 32 := 0#32
  let v211 : BitVec 1 := Scalar.cmpi .slt v209 c0_i32_165
  let c0_i32_166 : BitVec 32 := 0#32
  let v212 : BitVec 1 := Scalar.cmpi .slt v208 c0_i32_166
  let v213 : BitVec 1 := Scalar.xori v211 v212
  let c0_i32_164 : BitVec 32 := 0#32
  let v210 : BitVec 1 := Scalar.cmpi .ne v209 c0_i32_164
  let v214 : BitVec 1 := Scalar.andi v213 v210
  let v215 : BitVec 32 := Scalar.addi v209 v208
  let v216 : BitVec 32 := Scalar.select v214 v215 v209
  let c1_i32_172 : BitVec 32 := 1#32
  let v217 : BitVec 32 := Scalar.muli v216 c1_i32_172
  let v218 : BitVec 32 := Scalar.addi c0_i32_173 v217
  v218.toNat
def k0_dev14 (d0 : Dev nD) : Nat :=
  let c0_i32_191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_178 : BitVec 32 := 7#32
  let v226 : BitVec 32 := Scalar.subi v2 c7_i32_178
  let c8_i32_179 : BitVec 32 := 8#32
  let c0_i32_180 : BitVec 32 := 0#32
  let v227 : BitVec 1 := Scalar.cmpi .eq c8_i32_179 c0_i32_180
  let c1_i32_181 : BitVec 32 := 1#32
  let v228 : BitVec 32 := Scalar.select v227 c1_i32_181 c8_i32_179
  let v229 : BitVec 32 := Scalar.remsi v226 v228
  let c0_i32_183 : BitVec 32 := 0#32
  let v231 : BitVec 1 := Scalar.cmpi .slt v229 c0_i32_183
  let c0_i32_184 : BitVec 32 := 0#32
  let v232 : BitVec 1 := Scalar.cmpi .slt v228 c0_i32_184
  let v233 : BitVec 1 := Scalar.xori v231 v232
  let c0_i32_182 : BitVec 32 := 0#32
  let v230 : BitVec 1 := Scalar.cmpi .ne v229 c0_i32_182
  let v234 : BitVec 1 := Scalar.andi v233 v230
  let v235 : BitVec 32 := Scalar.addi v229 v228
  let v236 : BitVec 32 := Scalar.select v234 v235 v229
  let c1_i32_190 : BitVec 32 := 1#32
  let v237 : BitVec 32 := Scalar.muli v236 c1_i32_190
  let v238 : BitVec 32 := Scalar.addi c0_i32_191 v237
  v238.toNat
def k0_dev15 (d0 : Dev nD) : Nat :=
  let c0_i32_217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_204 : BitVec 32 := 1#32
  let v257 : BitVec 32 := Scalar.subi v2 c1_i32_204
  let c8_i32_205 : BitVec 32 := 8#32
  let c0_i32_206 : BitVec 32 := 0#32
  let v258 : BitVec 1 := Scalar.cmpi .eq c8_i32_205 c0_i32_206
  let c1_i32_207 : BitVec 32 := 1#32
  let v259 : BitVec 32 := Scalar.select v258 c1_i32_207 c8_i32_205
  let v260 : BitVec 32 := Scalar.remsi v257 v259
  let c0_i32_209 : BitVec 32 := 0#32
  let v262 : BitVec 1 := Scalar.cmpi .slt v260 c0_i32_209
  let c0_i32_210 : BitVec 32 := 0#32
  let v263 : BitVec 1 := Scalar.cmpi .slt v259 c0_i32_210
  let v264 : BitVec 1 := Scalar.xori v262 v263
  let c0_i32_208 : BitVec 32 := 0#32
  let v261 : BitVec 1 := Scalar.cmpi .ne v260 c0_i32_208
  let v265 : BitVec 1 := Scalar.andi v264 v261
  let v266 : BitVec 32 := Scalar.addi v260 v259
  let v267 : BitVec 32 := Scalar.select v265 v266 v260
  let c1_i32_216 : BitVec 32 := 1#32
  let v268 : BitVec 32 := Scalar.muli v267 c1_i32_216
  let v269 : BitVec 32 := Scalar.addi c0_i32_217 v268
  v269.toNat
def k0_dev16 (d0 : Dev nD) : Nat :=
  let c0_i32_234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_221 : BitVec 32 := 2#32
  let v277 : BitVec 32 := Scalar.subi v2 c2_i32_221
  let c8_i32_222 : BitVec 32 := 8#32
  let c0_i32_223 : BitVec 32 := 0#32
  let v278 : BitVec 1 := Scalar.cmpi .eq c8_i32_222 c0_i32_223
  let c1_i32_224 : BitVec 32 := 1#32
  let v279 : BitVec 32 := Scalar.select v278 c1_i32_224 c8_i32_222
  let v280 : BitVec 32 := Scalar.remsi v277 v279
  let c0_i32_226 : BitVec 32 := 0#32
  let v282 : BitVec 1 := Scalar.cmpi .slt v280 c0_i32_226
  let c0_i32_227 : BitVec 32 := 0#32
  let v283 : BitVec 1 := Scalar.cmpi .slt v279 c0_i32_227
  let v284 : BitVec 1 := Scalar.xori v282 v283
  let c0_i32_225 : BitVec 32 := 0#32
  let v281 : BitVec 1 := Scalar.cmpi .ne v280 c0_i32_225
  let v285 : BitVec 1 := Scalar.andi v284 v281
  let v286 : BitVec 32 := Scalar.addi v280 v279
  let v287 : BitVec 32 := Scalar.select v285 v286 v280
  let c1_i32_233 : BitVec 32 := 1#32
  let v288 : BitVec 32 := Scalar.muli v287 c1_i32_233
  let v289 : BitVec 32 := Scalar.addi c0_i32_234 v288
  v289.toNat
def k0_dev17 (d0 : Dev nD) : Nat :=
  let c0_i32_252 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_239 : BitVec 32 := 3#32
  let v297 : BitVec 32 := Scalar.subi v2 c3_i32_239
  let c8_i32_240 : BitVec 32 := 8#32
  let c0_i32_241 : BitVec 32 := 0#32
  let v298 : BitVec 1 := Scalar.cmpi .eq c8_i32_240 c0_i32_241
  let c1_i32_242 : BitVec 32 := 1#32
  let v299 : BitVec 32 := Scalar.select v298 c1_i32_242 c8_i32_240
  let v300 : BitVec 32 := Scalar.remsi v297 v299
  let c0_i32_244 : BitVec 32 := 0#32
  let v302 : BitVec 1 := Scalar.cmpi .slt v300 c0_i32_244
  let c0_i32_245 : BitVec 32 := 0#32
  let v303 : BitVec 1 := Scalar.cmpi .slt v299 c0_i32_245
  let v304 : BitVec 1 := Scalar.xori v302 v303
  let c0_i32_243 : BitVec 32 := 0#32
  let v301 : BitVec 1 := Scalar.cmpi .ne v300 c0_i32_243
  let v305 : BitVec 1 := Scalar.andi v304 v301
  let v306 : BitVec 32 := Scalar.addi v300 v299
  let v307 : BitVec 32 := Scalar.select v305 v306 v300
  let c1_i32_251 : BitVec 32 := 1#32
  let v308 : BitVec 32 := Scalar.muli v307 c1_i32_251
  let v309 : BitVec 32 := Scalar.addi c0_i32_252 v308
  v309.toNat
def k0_dev18 (d0 : Dev nD) : Nat :=
  let c0_i32_270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_257 : BitVec 32 := 4#32
  let v317 : BitVec 32 := Scalar.subi v2 c4_i32_257
  let c8_i32_258 : BitVec 32 := 8#32
  let c0_i32_259 : BitVec 32 := 0#32
  let v318 : BitVec 1 := Scalar.cmpi .eq c8_i32_258 c0_i32_259
  let c1_i32_260 : BitVec 32 := 1#32
  let v319 : BitVec 32 := Scalar.select v318 c1_i32_260 c8_i32_258
  let v320 : BitVec 32 := Scalar.remsi v317 v319
  let c0_i32_262 : BitVec 32 := 0#32
  let v322 : BitVec 1 := Scalar.cmpi .slt v320 c0_i32_262
  let c0_i32_263 : BitVec 32 := 0#32
  let v323 : BitVec 1 := Scalar.cmpi .slt v319 c0_i32_263
  let v324 : BitVec 1 := Scalar.xori v322 v323
  let c0_i32_261 : BitVec 32 := 0#32
  let v321 : BitVec 1 := Scalar.cmpi .ne v320 c0_i32_261
  let v325 : BitVec 1 := Scalar.andi v324 v321
  let v326 : BitVec 32 := Scalar.addi v320 v319
  let v327 : BitVec 32 := Scalar.select v325 v326 v320
  let c1_i32_269 : BitVec 32 := 1#32
  let v328 : BitVec 32 := Scalar.muli v327 c1_i32_269
  let v329 : BitVec 32 := Scalar.addi c0_i32_270 v328
  v329.toNat
def k0_dev19 (d0 : Dev nD) : Nat :=
  let c0_i32_288 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_275 : BitVec 32 := 5#32
  let v337 : BitVec 32 := Scalar.subi v2 c5_i32_275
  let c8_i32_276 : BitVec 32 := 8#32
  let c0_i32_277 : BitVec 32 := 0#32
  let v338 : BitVec 1 := Scalar.cmpi .eq c8_i32_276 c0_i32_277
  let c1_i32_278 : BitVec 32 := 1#32
  let v339 : BitVec 32 := Scalar.select v338 c1_i32_278 c8_i32_276
  let v340 : BitVec 32 := Scalar.remsi v337 v339
  let c0_i32_280 : BitVec 32 := 0#32
  let v342 : BitVec 1 := Scalar.cmpi .slt v340 c0_i32_280
  let c0_i32_281 : BitVec 32 := 0#32
  let v343 : BitVec 1 := Scalar.cmpi .slt v339 c0_i32_281
  let v344 : BitVec 1 := Scalar.xori v342 v343
  let c0_i32_279 : BitVec 32 := 0#32
  let v341 : BitVec 1 := Scalar.cmpi .ne v340 c0_i32_279
  let v345 : BitVec 1 := Scalar.andi v344 v341
  let v346 : BitVec 32 := Scalar.addi v340 v339
  let v347 : BitVec 32 := Scalar.select v345 v346 v340
  let c1_i32_287 : BitVec 32 := 1#32
  let v348 : BitVec 32 := Scalar.muli v347 c1_i32_287
  let v349 : BitVec 32 := Scalar.addi c0_i32_288 v348
  v349.toNat
def k0_dev20 (d0 : Dev nD) : Nat :=
  let c0_i32_306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_293 : BitVec 32 := 6#32
  let v357 : BitVec 32 := Scalar.subi v2 c6_i32_293
  let c8_i32_294 : BitVec 32 := 8#32
  let c0_i32_295 : BitVec 32 := 0#32
  let v358 : BitVec 1 := Scalar.cmpi .eq c8_i32_294 c0_i32_295
  let c1_i32_296 : BitVec 32 := 1#32
  let v359 : BitVec 32 := Scalar.select v358 c1_i32_296 c8_i32_294
  let v360 : BitVec 32 := Scalar.remsi v357 v359
  let c0_i32_298 : BitVec 32 := 0#32
  let v362 : BitVec 1 := Scalar.cmpi .slt v360 c0_i32_298
  let c0_i32_299 : BitVec 32 := 0#32
  let v363 : BitVec 1 := Scalar.cmpi .slt v359 c0_i32_299
  let v364 : BitVec 1 := Scalar.xori v362 v363
  let c0_i32_297 : BitVec 32 := 0#32
  let v361 : BitVec 1 := Scalar.cmpi .ne v360 c0_i32_297
  let v365 : BitVec 1 := Scalar.andi v364 v361
  let v366 : BitVec 32 := Scalar.addi v360 v359
  let v367 : BitVec 32 := Scalar.select v365 v366 v360
  let c1_i32_305 : BitVec 32 := 1#32
  let v368 : BitVec 32 := Scalar.muli v367 c1_i32_305
  let v369 : BitVec 32 := Scalar.addi c0_i32_306 v368
  v369.toNat
def k0_dev21 (d0 : Dev nD) : Nat :=
  let c0_i32_324 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_311 : BitVec 32 := 7#32
  let v377 : BitVec 32 := Scalar.subi v2 c7_i32_311
  let c8_i32_312 : BitVec 32 := 8#32
  let c0_i32_313 : BitVec 32 := 0#32
  let v378 : BitVec 1 := Scalar.cmpi .eq c8_i32_312 c0_i32_313
  let c1_i32_314 : BitVec 32 := 1#32
  let v379 : BitVec 32 := Scalar.select v378 c1_i32_314 c8_i32_312
  let v380 : BitVec 32 := Scalar.remsi v377 v379
  let c0_i32_316 : BitVec 32 := 0#32
  let v382 : BitVec 1 := Scalar.cmpi .slt v380 c0_i32_316
  let c0_i32_317 : BitVec 32 := 0#32
  let v383 : BitVec 1 := Scalar.cmpi .slt v379 c0_i32_317
  let v384 : BitVec 1 := Scalar.xori v382 v383
  let c0_i32_315 : BitVec 32 := 0#32
  let v381 : BitVec 1 := Scalar.cmpi .ne v380 c0_i32_315
  let v385 : BitVec 1 := Scalar.andi v384 v381
  let v386 : BitVec 32 := Scalar.addi v380 v379
  let v387 : BitVec 32 := Scalar.select v385 v386 v380
  let c1_i32_323 : BitVec 32 := 1#32
  let v388 : BitVec 32 := Scalar.muli v387 c1_i32_323
  let v389 : BitVec 32 := Scalar.addi c0_i32_324 v388
  v389.toNat
def k0_dev22 (d0 : Dev nD) : Nat :=
  let c0_i32_350 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_337 : BitVec 32 := 1#32
  let v408 : BitVec 32 := Scalar.subi v2 c1_i32_337
  let c8_i32_338 : BitVec 32 := 8#32
  let c0_i32_339 : BitVec 32 := 0#32
  let v409 : BitVec 1 := Scalar.cmpi .eq c8_i32_338 c0_i32_339
  let c1_i32_340 : BitVec 32 := 1#32
  let v410 : BitVec 32 := Scalar.select v409 c1_i32_340 c8_i32_338
  let v411 : BitVec 32 := Scalar.remsi v408 v410
  let c0_i32_342 : BitVec 32 := 0#32
  let v413 : BitVec 1 := Scalar.cmpi .slt v411 c0_i32_342
  let c0_i32_343 : BitVec 32 := 0#32
  let v414 : BitVec 1 := Scalar.cmpi .slt v410 c0_i32_343
  let v415 : BitVec 1 := Scalar.xori v413 v414
  let c0_i32_341 : BitVec 32 := 0#32
  let v412 : BitVec 1 := Scalar.cmpi .ne v411 c0_i32_341
  let v416 : BitVec 1 := Scalar.andi v415 v412
  let v417 : BitVec 32 := Scalar.addi v411 v410
  let v418 : BitVec 32 := Scalar.select v416 v417 v411
  let c1_i32_349 : BitVec 32 := 1#32
  let v419 : BitVec 32 := Scalar.muli v418 c1_i32_349
  let v420 : BitVec 32 := Scalar.addi c0_i32_350 v419
  v420.toNat
def k0_dev23 (d0 : Dev nD) : Nat :=
  let c0_i32_367 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_354 : BitVec 32 := 2#32
  let v428 : BitVec 32 := Scalar.subi v2 c2_i32_354
  let c8_i32_355 : BitVec 32 := 8#32
  let c0_i32_356 : BitVec 32 := 0#32
  let v429 : BitVec 1 := Scalar.cmpi .eq c8_i32_355 c0_i32_356
  let c1_i32_357 : BitVec 32 := 1#32
  let v430 : BitVec 32 := Scalar.select v429 c1_i32_357 c8_i32_355
  let v431 : BitVec 32 := Scalar.remsi v428 v430
  let c0_i32_359 : BitVec 32 := 0#32
  let v433 : BitVec 1 := Scalar.cmpi .slt v431 c0_i32_359
  let c0_i32_360 : BitVec 32 := 0#32
  let v434 : BitVec 1 := Scalar.cmpi .slt v430 c0_i32_360
  let v435 : BitVec 1 := Scalar.xori v433 v434
  let c0_i32_358 : BitVec 32 := 0#32
  let v432 : BitVec 1 := Scalar.cmpi .ne v431 c0_i32_358
  let v436 : BitVec 1 := Scalar.andi v435 v432
  let v437 : BitVec 32 := Scalar.addi v431 v430
  let v438 : BitVec 32 := Scalar.select v436 v437 v431
  let c1_i32_366 : BitVec 32 := 1#32
  let v439 : BitVec 32 := Scalar.muli v438 c1_i32_366
  let v440 : BitVec 32 := Scalar.addi c0_i32_367 v439
  v440.toNat
def k0_dev24 (d0 : Dev nD) : Nat :=
  let c0_i32_385 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_372 : BitVec 32 := 3#32
  let v448 : BitVec 32 := Scalar.subi v2 c3_i32_372
  let c8_i32_373 : BitVec 32 := 8#32
  let c0_i32_374 : BitVec 32 := 0#32
  let v449 : BitVec 1 := Scalar.cmpi .eq c8_i32_373 c0_i32_374
  let c1_i32_375 : BitVec 32 := 1#32
  let v450 : BitVec 32 := Scalar.select v449 c1_i32_375 c8_i32_373
  let v451 : BitVec 32 := Scalar.remsi v448 v450
  let c0_i32_377 : BitVec 32 := 0#32
  let v453 : BitVec 1 := Scalar.cmpi .slt v451 c0_i32_377
  let c0_i32_378 : BitVec 32 := 0#32
  let v454 : BitVec 1 := Scalar.cmpi .slt v450 c0_i32_378
  let v455 : BitVec 1 := Scalar.xori v453 v454
  let c0_i32_376 : BitVec 32 := 0#32
  let v452 : BitVec 1 := Scalar.cmpi .ne v451 c0_i32_376
  let v456 : BitVec 1 := Scalar.andi v455 v452
  let v457 : BitVec 32 := Scalar.addi v451 v450
  let v458 : BitVec 32 := Scalar.select v456 v457 v451
  let c1_i32_384 : BitVec 32 := 1#32
  let v459 : BitVec 32 := Scalar.muli v458 c1_i32_384
  let v460 : BitVec 32 := Scalar.addi c0_i32_385 v459
  v460.toNat
def k0_dev25 (d0 : Dev nD) : Nat :=
  let c0_i32_403 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_390 : BitVec 32 := 4#32
  let v468 : BitVec 32 := Scalar.subi v2 c4_i32_390
  let c8_i32_391 : BitVec 32 := 8#32
  let c0_i32_392 : BitVec 32 := 0#32
  let v469 : BitVec 1 := Scalar.cmpi .eq c8_i32_391 c0_i32_392
  let c1_i32_393 : BitVec 32 := 1#32
  let v470 : BitVec 32 := Scalar.select v469 c1_i32_393 c8_i32_391
  let v471 : BitVec 32 := Scalar.remsi v468 v470
  let c0_i32_395 : BitVec 32 := 0#32
  let v473 : BitVec 1 := Scalar.cmpi .slt v471 c0_i32_395
  let c0_i32_396 : BitVec 32 := 0#32
  let v474 : BitVec 1 := Scalar.cmpi .slt v470 c0_i32_396
  let v475 : BitVec 1 := Scalar.xori v473 v474
  let c0_i32_394 : BitVec 32 := 0#32
  let v472 : BitVec 1 := Scalar.cmpi .ne v471 c0_i32_394
  let v476 : BitVec 1 := Scalar.andi v475 v472
  let v477 : BitVec 32 := Scalar.addi v471 v470
  let v478 : BitVec 32 := Scalar.select v476 v477 v471
  let c1_i32_402 : BitVec 32 := 1#32
  let v479 : BitVec 32 := Scalar.muli v478 c1_i32_402
  let v480 : BitVec 32 := Scalar.addi c0_i32_403 v479
  v480.toNat
def k0_dev26 (d0 : Dev nD) : Nat :=
  let c0_i32_421 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_408 : BitVec 32 := 5#32
  let v488 : BitVec 32 := Scalar.subi v2 c5_i32_408
  let c8_i32_409 : BitVec 32 := 8#32
  let c0_i32_410 : BitVec 32 := 0#32
  let v489 : BitVec 1 := Scalar.cmpi .eq c8_i32_409 c0_i32_410
  let c1_i32_411 : BitVec 32 := 1#32
  let v490 : BitVec 32 := Scalar.select v489 c1_i32_411 c8_i32_409
  let v491 : BitVec 32 := Scalar.remsi v488 v490
  let c0_i32_413 : BitVec 32 := 0#32
  let v493 : BitVec 1 := Scalar.cmpi .slt v491 c0_i32_413
  let c0_i32_414 : BitVec 32 := 0#32
  let v494 : BitVec 1 := Scalar.cmpi .slt v490 c0_i32_414
  let v495 : BitVec 1 := Scalar.xori v493 v494
  let c0_i32_412 : BitVec 32 := 0#32
  let v492 : BitVec 1 := Scalar.cmpi .ne v491 c0_i32_412
  let v496 : BitVec 1 := Scalar.andi v495 v492
  let v497 : BitVec 32 := Scalar.addi v491 v490
  let v498 : BitVec 32 := Scalar.select v496 v497 v491
  let c1_i32_420 : BitVec 32 := 1#32
  let v499 : BitVec 32 := Scalar.muli v498 c1_i32_420
  let v500 : BitVec 32 := Scalar.addi c0_i32_421 v499
  v500.toNat
def k0_dev27 (d0 : Dev nD) : Nat :=
  let c0_i32_439 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_426 : BitVec 32 := 6#32
  let v508 : BitVec 32 := Scalar.subi v2 c6_i32_426
  let c8_i32_427 : BitVec 32 := 8#32
  let c0_i32_428 : BitVec 32 := 0#32
  let v509 : BitVec 1 := Scalar.cmpi .eq c8_i32_427 c0_i32_428
  let c1_i32_429 : BitVec 32 := 1#32
  let v510 : BitVec 32 := Scalar.select v509 c1_i32_429 c8_i32_427
  let v511 : BitVec 32 := Scalar.remsi v508 v510
  let c0_i32_431 : BitVec 32 := 0#32
  let v513 : BitVec 1 := Scalar.cmpi .slt v511 c0_i32_431
  let c0_i32_432 : BitVec 32 := 0#32
  let v514 : BitVec 1 := Scalar.cmpi .slt v510 c0_i32_432
  let v515 : BitVec 1 := Scalar.xori v513 v514
  let c0_i32_430 : BitVec 32 := 0#32
  let v512 : BitVec 1 := Scalar.cmpi .ne v511 c0_i32_430
  let v516 : BitVec 1 := Scalar.andi v515 v512
  let v517 : BitVec 32 := Scalar.addi v511 v510
  let v518 : BitVec 32 := Scalar.select v516 v517 v511
  let c1_i32_438 : BitVec 32 := 1#32
  let v519 : BitVec 32 := Scalar.muli v518 c1_i32_438
  let v520 : BitVec 32 := Scalar.addi c0_i32_439 v519
  v520.toNat
def k0_dev28 (d0 : Dev nD) : Nat :=
  let c0_i32_457 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_444 : BitVec 32 := 7#32
  let v528 : BitVec 32 := Scalar.subi v2 c7_i32_444
  let c8_i32_445 : BitVec 32 := 8#32
  let c0_i32_446 : BitVec 32 := 0#32
  let v529 : BitVec 1 := Scalar.cmpi .eq c8_i32_445 c0_i32_446
  let c1_i32_447 : BitVec 32 := 1#32
  let v530 : BitVec 32 := Scalar.select v529 c1_i32_447 c8_i32_445
  let v531 : BitVec 32 := Scalar.remsi v528 v530
  let c0_i32_449 : BitVec 32 := 0#32
  let v533 : BitVec 1 := Scalar.cmpi .slt v531 c0_i32_449
  let c0_i32_450 : BitVec 32 := 0#32
  let v534 : BitVec 1 := Scalar.cmpi .slt v530 c0_i32_450
  let v535 : BitVec 1 := Scalar.xori v533 v534
  let c0_i32_448 : BitVec 32 := 0#32
  let v532 : BitVec 1 := Scalar.cmpi .ne v531 c0_i32_448
  let v536 : BitVec 1 := Scalar.andi v535 v532
  let v537 : BitVec 32 := Scalar.addi v531 v530
  let v538 : BitVec 32 := Scalar.select v536 v537 v531
  let c1_i32_456 : BitVec 32 := 1#32
  let v539 : BitVec 32 := Scalar.muli v538 c1_i32_456
  let v540 : BitVec 32 := Scalar.addi c0_i32_457 v539
  v540.toNat
def k0_dev29 (d0 : Dev nD) : Nat :=
  let c0_i32_483 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_470 : BitVec 32 := 1#32
  let v559 : BitVec 32 := Scalar.subi v2 c1_i32_470
  let c8_i32_471 : BitVec 32 := 8#32
  let c0_i32_472 : BitVec 32 := 0#32
  let v560 : BitVec 1 := Scalar.cmpi .eq c8_i32_471 c0_i32_472
  let c1_i32_473 : BitVec 32 := 1#32
  let v561 : BitVec 32 := Scalar.select v560 c1_i32_473 c8_i32_471
  let v562 : BitVec 32 := Scalar.remsi v559 v561
  let c0_i32_475 : BitVec 32 := 0#32
  let v564 : BitVec 1 := Scalar.cmpi .slt v562 c0_i32_475
  let c0_i32_476 : BitVec 32 := 0#32
  let v565 : BitVec 1 := Scalar.cmpi .slt v561 c0_i32_476
  let v566 : BitVec 1 := Scalar.xori v564 v565
  let c0_i32_474 : BitVec 32 := 0#32
  let v563 : BitVec 1 := Scalar.cmpi .ne v562 c0_i32_474
  let v567 : BitVec 1 := Scalar.andi v566 v563
  let v568 : BitVec 32 := Scalar.addi v562 v561
  let v569 : BitVec 32 := Scalar.select v567 v568 v562
  let c1_i32_482 : BitVec 32 := 1#32
  let v570 : BitVec 32 := Scalar.muli v569 c1_i32_482
  let v571 : BitVec 32 := Scalar.addi c0_i32_483 v570
  v571.toNat
def k0_dev30 (d0 : Dev nD) : Nat :=
  let c0_i32_500 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_487 : BitVec 32 := 2#32
  let v579 : BitVec 32 := Scalar.subi v2 c2_i32_487
  let c8_i32_488 : BitVec 32 := 8#32
  let c0_i32_489 : BitVec 32 := 0#32
  let v580 : BitVec 1 := Scalar.cmpi .eq c8_i32_488 c0_i32_489
  let c1_i32_490 : BitVec 32 := 1#32
  let v581 : BitVec 32 := Scalar.select v580 c1_i32_490 c8_i32_488
  let v582 : BitVec 32 := Scalar.remsi v579 v581
  let c0_i32_492 : BitVec 32 := 0#32
  let v584 : BitVec 1 := Scalar.cmpi .slt v582 c0_i32_492
  let c0_i32_493 : BitVec 32 := 0#32
  let v585 : BitVec 1 := Scalar.cmpi .slt v581 c0_i32_493
  let v586 : BitVec 1 := Scalar.xori v584 v585
  let c0_i32_491 : BitVec 32 := 0#32
  let v583 : BitVec 1 := Scalar.cmpi .ne v582 c0_i32_491
  let v587 : BitVec 1 := Scalar.andi v586 v583
  let v588 : BitVec 32 := Scalar.addi v582 v581
  let v589 : BitVec 32 := Scalar.select v587 v588 v582
  let c1_i32_499 : BitVec 32 := 1#32
  let v590 : BitVec 32 := Scalar.muli v589 c1_i32_499
  let v591 : BitVec 32 := Scalar.addi c0_i32_500 v590
  v591.toNat
def k0_dev31 (d0 : Dev nD) : Nat :=
  let c0_i32_518 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_505 : BitVec 32 := 3#32
  let v599 : BitVec 32 := Scalar.subi v2 c3_i32_505
  let c8_i32_506 : BitVec 32 := 8#32
  let c0_i32_507 : BitVec 32 := 0#32
  let v600 : BitVec 1 := Scalar.cmpi .eq c8_i32_506 c0_i32_507
  let c1_i32_508 : BitVec 32 := 1#32
  let v601 : BitVec 32 := Scalar.select v600 c1_i32_508 c8_i32_506
  let v602 : BitVec 32 := Scalar.remsi v599 v601
  let c0_i32_510 : BitVec 32 := 0#32
  let v604 : BitVec 1 := Scalar.cmpi .slt v602 c0_i32_510
  let c0_i32_511 : BitVec 32 := 0#32
  let v605 : BitVec 1 := Scalar.cmpi .slt v601 c0_i32_511
  let v606 : BitVec 1 := Scalar.xori v604 v605
  let c0_i32_509 : BitVec 32 := 0#32
  let v603 : BitVec 1 := Scalar.cmpi .ne v602 c0_i32_509
  let v607 : BitVec 1 := Scalar.andi v606 v603
  let v608 : BitVec 32 := Scalar.addi v602 v601
  let v609 : BitVec 32 := Scalar.select v607 v608 v602
  let c1_i32_517 : BitVec 32 := 1#32
  let v610 : BitVec 32 := Scalar.muli v609 c1_i32_517
  let v611 : BitVec 32 := Scalar.addi c0_i32_518 v610
  v611.toNat
def k0_dev32 (d0 : Dev nD) : Nat :=
  let c0_i32_536 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_523 : BitVec 32 := 4#32
  let v619 : BitVec 32 := Scalar.subi v2 c4_i32_523
  let c8_i32_524 : BitVec 32 := 8#32
  let c0_i32_525 : BitVec 32 := 0#32
  let v620 : BitVec 1 := Scalar.cmpi .eq c8_i32_524 c0_i32_525
  let c1_i32_526 : BitVec 32 := 1#32
  let v621 : BitVec 32 := Scalar.select v620 c1_i32_526 c8_i32_524
  let v622 : BitVec 32 := Scalar.remsi v619 v621
  let c0_i32_528 : BitVec 32 := 0#32
  let v624 : BitVec 1 := Scalar.cmpi .slt v622 c0_i32_528
  let c0_i32_529 : BitVec 32 := 0#32
  let v625 : BitVec 1 := Scalar.cmpi .slt v621 c0_i32_529
  let v626 : BitVec 1 := Scalar.xori v624 v625
  let c0_i32_527 : BitVec 32 := 0#32
  let v623 : BitVec 1 := Scalar.cmpi .ne v622 c0_i32_527
  let v627 : BitVec 1 := Scalar.andi v626 v623
  let v628 : BitVec 32 := Scalar.addi v622 v621
  let v629 : BitVec 32 := Scalar.select v627 v628 v622
  let c1_i32_535 : BitVec 32 := 1#32
  let v630 : BitVec 32 := Scalar.muli v629 c1_i32_535
  let v631 : BitVec 32 := Scalar.addi c0_i32_536 v630
  v631.toNat
def k0_dev33 (d0 : Dev nD) : Nat :=
  let c0_i32_554 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_541 : BitVec 32 := 5#32
  let v639 : BitVec 32 := Scalar.subi v2 c5_i32_541
  let c8_i32_542 : BitVec 32 := 8#32
  let c0_i32_543 : BitVec 32 := 0#32
  let v640 : BitVec 1 := Scalar.cmpi .eq c8_i32_542 c0_i32_543
  let c1_i32_544 : BitVec 32 := 1#32
  let v641 : BitVec 32 := Scalar.select v640 c1_i32_544 c8_i32_542
  let v642 : BitVec 32 := Scalar.remsi v639 v641
  let c0_i32_546 : BitVec 32 := 0#32
  let v644 : BitVec 1 := Scalar.cmpi .slt v642 c0_i32_546
  let c0_i32_547 : BitVec 32 := 0#32
  let v645 : BitVec 1 := Scalar.cmpi .slt v641 c0_i32_547
  let v646 : BitVec 1 := Scalar.xori v644 v645
  let c0_i32_545 : BitVec 32 := 0#32
  let v643 : BitVec 1 := Scalar.cmpi .ne v642 c0_i32_545
  let v647 : BitVec 1 := Scalar.andi v646 v643
  let v648 : BitVec 32 := Scalar.addi v642 v641
  let v649 : BitVec 32 := Scalar.select v647 v648 v642
  let c1_i32_553 : BitVec 32 := 1#32
  let v650 : BitVec 32 := Scalar.muli v649 c1_i32_553
  let v651 : BitVec 32 := Scalar.addi c0_i32_554 v650
  v651.toNat
def k0_dev34 (d0 : Dev nD) : Nat :=
  let c0_i32_572 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_559 : BitVec 32 := 6#32
  let v659 : BitVec 32 := Scalar.subi v2 c6_i32_559
  let c8_i32_560 : BitVec 32 := 8#32
  let c0_i32_561 : BitVec 32 := 0#32
  let v660 : BitVec 1 := Scalar.cmpi .eq c8_i32_560 c0_i32_561
  let c1_i32_562 : BitVec 32 := 1#32
  let v661 : BitVec 32 := Scalar.select v660 c1_i32_562 c8_i32_560
  let v662 : BitVec 32 := Scalar.remsi v659 v661
  let c0_i32_564 : BitVec 32 := 0#32
  let v664 : BitVec 1 := Scalar.cmpi .slt v662 c0_i32_564
  let c0_i32_565 : BitVec 32 := 0#32
  let v665 : BitVec 1 := Scalar.cmpi .slt v661 c0_i32_565
  let v666 : BitVec 1 := Scalar.xori v664 v665
  let c0_i32_563 : BitVec 32 := 0#32
  let v663 : BitVec 1 := Scalar.cmpi .ne v662 c0_i32_563
  let v667 : BitVec 1 := Scalar.andi v666 v663
  let v668 : BitVec 32 := Scalar.addi v662 v661
  let v669 : BitVec 32 := Scalar.select v667 v668 v662
  let c1_i32_571 : BitVec 32 := 1#32
  let v670 : BitVec 32 := Scalar.muli v669 c1_i32_571
  let v671 : BitVec 32 := Scalar.addi c0_i32_572 v670
  v671.toNat
def k0_dev35 (d0 : Dev nD) : Nat :=
  let c0_i32_590 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_577 : BitVec 32 := 7#32
  let v679 : BitVec 32 := Scalar.subi v2 c7_i32_577
  let c8_i32_578 : BitVec 32 := 8#32
  let c0_i32_579 : BitVec 32 := 0#32
  let v680 : BitVec 1 := Scalar.cmpi .eq c8_i32_578 c0_i32_579
  let c1_i32_580 : BitVec 32 := 1#32
  let v681 : BitVec 32 := Scalar.select v680 c1_i32_580 c8_i32_578
  let v682 : BitVec 32 := Scalar.remsi v679 v681
  let c0_i32_582 : BitVec 32 := 0#32
  let v684 : BitVec 1 := Scalar.cmpi .slt v682 c0_i32_582
  let c0_i32_583 : BitVec 32 := 0#32
  let v685 : BitVec 1 := Scalar.cmpi .slt v681 c0_i32_583
  let v686 : BitVec 1 := Scalar.xori v684 v685
  let c0_i32_581 : BitVec 32 := 0#32
  let v683 : BitVec 1 := Scalar.cmpi .ne v682 c0_i32_581
  let v687 : BitVec 1 := Scalar.andi v686 v683
  let v688 : BitVec 32 := Scalar.addi v682 v681
  let v689 : BitVec 32 := Scalar.select v687 v688 v682
  let c1_i32_589 : BitVec 32 := 1#32
  let v690 : BitVec 32 := Scalar.muli v689 c1_i32_589
  let v691 : BitVec 32 := Scalar.addi c0_i32_590 v690
  v691.toNat
abbrev stage0_0 : Fin 1 → Memref sig .tc .vmem S2x4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4096x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2x4096x4096 : Shape := ⟨3, ![2, 4096, 4096]⟩
abbrev S2x128 : Shape := ⟨2, ![2, 128]⟩
abbrev S128x4096 : Shape := ⟨2, ![128, 4096]⟩
abbrev S_ : Shape := ⟨0, ![]⟩
abbrev S2x4096 : Shape := ⟨2, ![2, 4096]⟩
abbrev S2x4096x1 : Shape := ⟨3, ![2, 4096, 1]⟩
abbrev S2x1x4096 : Shape := ⟨3, ![2, 1, 4096]⟩

abbrev nBuf : Space → Nat
  | .hbm => 53
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x128, .f32⟩
  | .hbm, ⟨2, _⟩ => ⟨S128x4096, .f32⟩
  | .hbm, ⟨3, _⟩ => ⟨S128x4096, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .i32⟩
  | .hbm, ⟨11, _⟩ => ⟨S_, .f32⟩
  | .hbm, ⟨12, _⟩ => ⟨S2x4096, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x4096, .f32⟩
  | .hbm, ⟨18, _⟩ => ⟨S2x4096x4096, .f32⟩
  | .hbm, ⟨19, _⟩ => ⟨S2x4096x4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2x4096, .f32⟩
  | .hbm, ⟨25, _⟩ => ⟨S2x4096x1, .f32⟩
  | .hbm, ⟨26, _⟩ => ⟨S2x4096x1, .f32⟩
  | .hbm, ⟨27, _⟩ => ⟨S2x4096x1, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S2x4096x1, .f32⟩
  | .hbm, ⟨33, _⟩ => ⟨S2x4096x1, .f32⟩
  | .hbm, ⟨34, _⟩ => ⟨S2x4096x4096, .f32⟩
  | .hbm, ⟨35, _⟩ => ⟨S2x4096x4096, .f32⟩
  | .hbm, ⟨36, _⟩ => ⟨S_, .f32⟩
  | .hbm, ⟨37, _⟩ => ⟨S2x4096x1, .f32⟩
  | .hbm, ⟨38, _⟩ => ⟨S2x4096x1, .f32⟩
  | .hbm, ⟨39, _⟩ => ⟨S2x4096x1, .f32⟩
  | .hbm, ⟨40, _⟩ => ⟨S2x4096x4096, .f32⟩
  | .hbm, ⟨41, _⟩ => ⟨S2x4096x4096, .f32⟩
  | .hbm, ⟨42, _⟩ => ⟨S2x4096, .f32⟩
  | .hbm, ⟨43, _⟩ => ⟨S2x4096, .f32⟩
  | .hbm, ⟨44, _⟩ => ⟨S2x1x4096, .f32⟩
  | .hbm, ⟨45, _⟩ => ⟨S_, .f32⟩
  | .hbm, ⟨46, _⟩ => ⟨S2x1x4096, .f32⟩
  | .hbm, ⟨47, _⟩ => ⟨S2x1x4096, .f32⟩
  | .hbm, ⟨48, _⟩ => ⟨S2x4096x4096, .f32⟩
  | .hbm, ⟨49, _⟩ => ⟨S2x4096x4096, .f32⟩
  | .hbm, ⟨50, _⟩ => ⟨S2x1x4096, .f32⟩
  | .hbm, ⟨51, _⟩ => ⟨S2x4096x4096, .f32⟩
  | .hbm, ⟨52, _⟩ => ⟨S2x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩

abbrev nD : Nat := 1
abbrev τ : Topo := Topo.v7x

variable {F : FTy → Type} [FloatOps F]
-- ==== Proof.Program.lean ====
/-
# The kernel's body as loops

The printed body of `cc0_body` is one long list of effects. Here it is written again as the loops it was unrolled
from: seven signals and one wait on the barrier semaphore, four row tiles whose partial sums are stored and sent to the
seven peers, two small matrix products, four tiles of output each after its seven arrivals, and the waits for the
twenty-eight sends. That the two are the same program is `body_eq` of the module `BodyEq`.
-/
module

public import proofs.«01_k».proof.Proof.Gen.KernelIdeal.Skeleton

@[expose] public section

set_option maxRecDepth 16384

noncomputable section

namespace Cert.KernelIdeal.Run

open Cert.KernelIdeal Cert.KernelIdeal.Gen
open Idealize.ShloMosaic Idealize.SL.Sem

variable {F : FTy → Type} [FloatOps F]

abbrev TC (F : FTy → Type) [FloatOps F] (α : Type) := Prog (TpuEff nD τ sig (Elt F) Λ₀ .tc) α

/-- Run `p` at each element of a list, in order. -/
def forAll {ι : Type} : List ι → (ι → TC F PUnit) → TC F PUnit
  | [], _ => pure ⟨⟩
  | i :: l, p => do p i; forAll l p

/-- The seven peers' copies, the four row tiles. -/
abbrev peers : List (Fin 7) := [0, 1, 2, 3, 4, 5, 6]
abbrev tiles : List (Fin 4) := [0, 1, 2, 3]

/-! ## Devices -/

/-- The device that the `k`-th signal of device `d` names. -/
def sigDev (d : Dev nD) : Fin 7 → Dev nD :=
  ![⟨k0_dev1 d, k0_dev1_lt d⟩, ⟨k0_dev2 d, k0_dev2_lt d⟩, ⟨k0_dev3 d, k0_dev3_lt d⟩, ⟨k0_dev4 d, k0_dev4_lt d⟩,
    ⟨k0_dev5 d, k0_dev5_lt d⟩, ⟨k0_dev6 d, k0_dev6_lt d⟩, ⟨k0_dev7 d, k0_dev7_lt d⟩]

/-- The device that the `k`-th copy of tile `t` of device `d` names. -/
def copyDev (d : Dev nD) (t : Fin 4) : Fin 7 → Dev nD :=
  (![![⟨k0_dev8 d, k0_dev8_lt d⟩, ⟨k0_dev9 d, k0_dev9_lt d⟩, ⟨k0_dev10 d, k0_dev10_lt d⟩, ⟨k0_dev11 d, k0_dev11_lt d⟩,
      ⟨k0_dev12 d, k0_dev12_lt d⟩, ⟨k0_dev13 d, k0_dev13_lt d⟩, ⟨k0_dev14 d, k0_dev14_lt d⟩],
    ![⟨k0_dev15 d, k0_dev15_lt d⟩, ⟨k0_dev16 d, k0_dev16_lt d⟩, ⟨k0_dev17 d, k0_dev17_lt d⟩, ⟨k0_dev18 d, k0_dev18_lt d⟩,
      ⟨k0_dev19 d, k0_dev19_lt d⟩, ⟨k0_dev20 d, k0_dev20_lt d⟩, ⟨k0_dev21 d, k0_dev21_lt d⟩],
    ![⟨k0_dev22 d, k0_dev22_lt d⟩, ⟨k0_dev23 d, k0_dev23_lt d⟩, ⟨k0_dev24 d, k0_dev24_lt d⟩, ⟨k0_dev25 d, k0_dev25_lt d⟩,
      ⟨k0_dev26 d, k0_dev26_lt d⟩, ⟨k0_dev27 d, k0_dev27_lt d⟩, ⟨k0_dev28 d, k0_dev28_lt d⟩],
    ![⟨k0_dev29 d, k0_dev29_lt d⟩, ⟨k0_dev30 d, k0_dev30_lt d⟩, ⟨k0_dev31 d, k0_dev31_lt d⟩, ⟨k0_dev32 d, k0_dev32_lt d⟩,
      ⟨k0_dev33 d, k0_dev33_lt d⟩, ⟨k0_dev34 d, k0_dev34_lt d⟩, ⟨k0_dev35 d, k0_dev35_lt d⟩]] : Fin 4 → Fin 7 → Dev nD) t

/-! ## Rectangles: the rows of one tile in each buffer -/

theorem inX (t : Fin 4) : ∀ a, (![0, 1024 * t.val, 0] : Fin 3 → Nat) a + S2x1024x512.size a ≤ S2x4096x512.size a := by
  revert t; decide
theorem inSum (t : Fin 4) : ∀ a, (![0, 1024 * t.val] : Fin 2 → Nat) a + S2x1024.size a ≤ S4x4096.size a := by
  revert t; decide
theorem inSq (t : Fin 4) : ∀ a, (![2, 1024 * t.val] : Fin 2 → Nat) a + S2x1024.size a ≤ S4x4096.size a := by
  revert t; decide
theorem inStat (t : Fin 4) : ∀ a, (![0, 1024 * t.val] : Fin 2 → Nat) a + S4x1024.size a ≤ S4x4096.size a := by
  revert t; decide
theorem inComm (k : Fin 7) (t : Fin 4) : ∀ a, (![k.val, 0, 1024 * t.val] : Fin 3 → Nat) a + S1x4x1024.size a ≤ S7x4x4096.size a := by
  revert k t; decide
theorem inSem (k : Fin 7) (t : Fin 4) : ∀ a, (![k.val, t.val] : Fin 2 → Nat) a + S1x1.size a ≤ S7x4.size a := by
  revert k t; decide

abbrev rX (t : Fin 4) : Rect S2x4096x512 := Rect.unit (s := S2x4096x512) ![0, 1024 * t.val, 0] S2x1024x512.size (inX t)
abbrev rSum (t : Fin 4) : Rect S4x4096 := Rect.unit (s := S4x4096) ![0, 1024 * t.val] S2x1024.size (inSum t)
abbrev rSq (t : Fin 4) : Rect S4x4096 := Rect.unit (s := S4x4096) ![2, 1024 * t.val] S2x1024.size (inSq t)
abbrev rStat (t : Fin 4) : Rect S4x4096 := Rect.unit (s := S4x4096) ![0, 1024 * t.val] S4x1024.size (inStat t)
abbrev rComm (k : Fin 7) (t : Fin 4) : Rect S7x4x4096 := Rect.unit (s := S7x4x4096) ![k.val, 0, 1024 * t.val] S1x4x1024.size (inComm k t)
abbrev rSem (k : Fin 7) (t : Fin 4) : Rect S7x4 := Rect.unit (s := S7x4) ![k.val, t.val] S1x1.size (inSem k t)
abbrev rTe : Rect S2x128 := Rect.unit (s := S2x128) ![0, 0] S2x128.size inb_S2x128_S2x128_0_0
abbrev rW : Rect S128x512 := Rect.unit (s := S128x512) ![0, 0] S128x512.size inb_S128x512_S128x512_0_0

/-- The four rows of partial sums of tile `t`; the slot and columns that the `k`-th peer's copy of tile `t` lands in;
    semaphore `(k, t)` of an array of them. -/
abbrev statM (a : Memref sig .tc .vmem S4x4096 .f32) (t : Fin 4) : Memref sig .tc .vmem S4x1024 .f32 :=
  a.slice (rStat t) (fun _ => rfl)
abbrev commM (a : Memref sig .tc .vmem S7x4x4096 .f32) (k : Fin 7) (t : Fin 4) : Memref sig .tc .vmem S4x1024 .f32 :=
  (a.slice (rComm k t) (fun _ => rfl)).squeeze S4x1024 squeezes_S1x4x1024_S4x1024
abbrev semAt (a : DmaSems sig S7x4) (k : Fin 7) (t : Fin 4) : DmaSem sig :=
  ((a.slice (rSem k t)).squeeze S_ squeezes_S1x1_S_).sem

abbrev barSem : Sem sig := (SemArray.scalar (sig.barrier 0 rfl) : Sems sig S_).sem

/-! ## The loops -/

section Loops

variable (x : Memref sig .tc .vmem S2x4096x512 .f32) (te : Memref sig .tc .vmem S2x128 .f32)
  (ws wh : Memref sig .tc .vmem S128x512 .f32) (out : Memref sig .tc .vmem S2x4096x512 .f32)
  (st : Memref sig .tc .vmem S4x4096 .f32) (cm : Memref sig .tc .vmem S7x4x4096 .f32) (ss rs : DmaSems sig S7x4)

/-- One signal of the opening barrier. -/
def signal (d : Dev nD) (k : Fin 7) : TC F PUnit := semSignalWord (sigDev d k) barSem 1#32

/-- One copy: tile `t` of the partial sums to the `k`-th peer's slot `k`. -/
def copy (d : Dev nD) (t : Fin 4) (k : Fin 7) : TC F PUnit :=
  Prog.lift (.enqueueDma (statM st t) (.remote (Dev.tc (copyDev d t k)) (commM cm k t) (.dma (semAt ss k t))) (.dma (semAt rs k t))
    (View.wordExact_bits rfl) ((View.wordExact_bits rfl).reshape _ _) ⟨⟨rfl, Or.inl rfl⟩, trivial⟩)

/-- Tile `t`'s partial sums: the sum over the block's columns into rows 0 and 1, that of the squares into rows 2 and 3. -/
def sums (t : Fin 4) : TC F PUnit := do
  let v : Vec F S2x1024x512 .f32 ← Prog.lift (.load x (rX t).toLoadRect (View.loadsAt_vmem h_S2x1024x512))
  let _ : Vec F S2x1024 .f32 ← Prog.lift (.load st (rSum t).toLoadRect (View.loadsAt_vmem h_S2x1024))
  Prog.lift (.store st (rSum t) (k0_pay2 v) Finset.univ (View.stores_vmem_bits_univ h_S2x1024 rfl) (.inl rfl))
  let _ : Vec F S2x1024 .f32 ← Prog.lift (.load st (rSq t).toLoadRect (View.loadsAt_vmem h_S2x1024))
  Prog.lift (.store st (rSq t) (k0_pay3 v) Finset.univ (View.stores_vmem_bits_univ h_S2x1024 rfl) (.inl rfl))

/-- Tile `t`, sums stored and sent. -/
def tile (d : Dev nD) (t : Fin 4) : TC F PUnit := do
  sums x st t
  forAll peers (copy st cm ss rs d t)

/-- One arrival, one departure. -/
def arrive (t : Fin 4) (k : Fin 7) : TC F PUnit :=
  Prog.lift (.waitDma2 (semAt rs k t) (statM st t) (commM cm k t) (View.wordExact_bits rfl) ((View.wordExact_bits rfl).reshape _ _))
def depart (t : Fin 4) (k : Fin 7) : TC F PUnit :=
  Prog.lift (.waitDma2 (semAt ss k t) (commM cm k t) (statM st t) ((View.wordExact_bits rfl).reshape _ _) (View.wordExact_bits rfl))

/-- Tile `t` of the result, from the partial sums of all eight devices, `1 + scale` and `shift`. -/
def output (sc sh : FVec F S2x1x512 .f32) (t : Fin 4) : TC F PUnit := do
  let s : Vec F S4x1024 .f32 ← Prog.lift (.load st (rStat t).toLoadRect (View.loadsAt_vmem h_S4x1024))
  let c0 : Vec F S1x4x1024 .f32 ← Prog.lift (.load cm (rComm 0 t).toLoadRect (View.loadsAt_vmem h_S1x4x1024))
  let c1 : Vec F S1x4x1024 .f32 ← Prog.lift (.load cm (rComm 1 t).toLoadRect (View.loadsAt_vmem h_S1x4x1024))
  let c2 : Vec F S1x4x1024 .f32 ← Prog.lift (.load cm (rComm 2 t).toLoadRect (View.loadsAt_vmem h_S1x4x1024))
  let c3 : Vec F S1x4x1024 .f32 ← Prog.lift (.load cm (rComm 3 t).toLoadRect (View.loadsAt_vmem h_S1x4x1024))
  let c4 : Vec F S1x4x1024 .f32 ← Prog.lift (.load cm (rComm 4 t).toLoadRect (View.loadsAt_vmem h_S1x4x1024))
  let c5 : Vec F S1x4x1024 .f32 ← Prog.lift (.load cm (rComm 5 t).toLoadRect (View.loadsAt_vmem h_S1x4x1024))
  let c6 : Vec F S1x4x1024 .f32 ← Prog.lift (.load cm (rComm 6 t).toLoadRect (View.loadsAt_vmem h_S1x4x1024))
  let v : Vec F S2x1024x512 .f32 ← Prog.lift (.load x (rX t).toLoadRect (View.loadsAt_vmem h_S2x1024x512))
  let _ : Vec F S2x1024x512 .f32 ← Prog.lift (.load out (rX t).toLoadRect (View.loadsAt_vmem h_S2x1024x512))
  Prog.lift (.store out (rX t) (k0_pay21 sc sh (k0_pay19 s c0 c1 c2 c3 c4 c5) (k0_pay20 c6) v) Finset.univ
    (View.stores_vmem_bits_univ h_S2x1024x512 rfl) (.inl rfl))

def finish (sc sh : FVec F S2x1x512 .f32) (t : Fin 4) : TC F PUnit := do
  forAll peers (arrive st cm rs t)
  output x out st cm sc sh t

/-- `1 + scale` from the loaded embedding and weights; `shift` likewise. -/
def scaleOf (e : Vec F S2x128 .f32) (w : Vec F S128x512 .f32) : FVec F S2x1x512 .f32 :=
  k0_pay17 (k0_pay16 e w) (Scalar.ofBits .f32 0x3F800000#32)
def shiftOf (e : Vec F S2x128 .f32) (w : Vec F S128x512 .f32) : FVec F S2x1x512 .f32 := k0_pay18 (k0_pay15 e w)

/-- The last two phases: all tiles of the result, then the waits for the sends. -/
def closing (sc sh : FVec F S2x1x512 .f32) : TC F PUnit := do
  forAll tiles (finish x out st cm rs sc sh)
  forAll tiles (fun t => forAll peers (depart st cm ss t))

def body : TC F PUnit := do
  let d : Dev nD ← Prog.lift .deviceId
  forAll peers (signal d)
  semWaitWord barSem 7#32
  forAll tiles (tile x st cm ss rs d)
  let e : Vec F S2x128 .f32 ← Prog.lift (.load te rTe.toLoadRect (View.loadsAt_vmem h_S2x128))
  let w : Vec F S128x512 .f32 ← Prog.lift (.load ws rW.toLoadRect (View.loadsAt_vmem h_S128x512))
  let e' : Vec F S2x128 .f32 ← Prog.lift (.load te rTe.toLoadRect (View.loadsAt_vmem h_S2x128))
  let w' : Vec F S128x512 .f32 ← Prog.lift (.load wh rW.toLoadRect (View.loadsAt_vmem h_S128x512))
  closing x out st cm ss rs (scaleOf e w) (shiftOf e' w')

end Loops

end Cert.KernelIdeal.Run

end
-- ==== Proof.Protocol.lean ====
/-
# The protocol of the barrier and of the copies

Every device has one barrier cell, one send cell and one receive cell for each tile and each peer. Device `c`'s `k`-th
signal raises the barrier cell of `fwd c k`, the device `k + 1` after it, and hands that device slot `k` of its
landing buffer: the `k`-th copies of that device land there. Device `c`'s `k`-th copy of tile `t` goes to
`bwd c k`, the device `k + 1` before it; it hands back the share of the partial sums that it read, and leaves the receiver
the partial sums of the tile in the receiver's slot.
-/
module

public import proofs.«01_k».proof.Proof.Program
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.ShareLeaves
public import Idealize.ShloMosaic.Lib.Ring
public import Idealize.ShloMosaic.Lib.ValueIdxCore
public import Idealize.ShloMosaic.Lib.Exec.Context
public import Idealize.ShloMosaic.Lib.Tactic

@[expose] public section

set_option maxRecDepth 16384

noncomputable section

namespace Cert.KernelIdeal.Run

open Cert.KernelIdeal Cert.KernelIdeal.Gen
open Idealize.ShloMosaic
open Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources: the pipeline's rounds and the protocol's, whose duties are named by `Fin 7` -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore at zero. -/
abbrev start₀ : MemSt nD τ sig (Elt F) := ⟨m, fun _ => 0, ρ⟩

/-- Every element type has an element. -/
instance eltNonempty : ∀ e, Nonempty (Elt F e)
  | .i1 => ⟨0#1⟩ | .i4 => ⟨0#4⟩ | .i8 => ⟨0#8⟩ | .i16 => ⟨0#16⟩ | .i32 => ⟨0#32⟩ | .i64 => ⟨0#64⟩
  | .fp8e4m3 => ⟨Scalar.ofBits .fp8e4m3 0#8⟩ | .fp8e5m2 => ⟨Scalar.ofBits .fp8e5m2 0#8⟩ | .bf16 => ⟨Scalar.ofBits .bf16 0#16⟩
  | .f16 => ⟨Scalar.ofBits .f16 0#16⟩ | .f32 => ⟨Scalar.ofBits .f32 0#32⟩

/-! ## Devices -/

/-- The device `k + 1` after `c`, and the device `k + 1` before it. -/
def fwd (c : Dev nD) (k : Fin 7) : Dev nD := (show Fin 8 from c) + k.succ
def bwd (c : Dev nD) (k : Fin 7) : Dev nD := (show Fin 8 from c) - k.succ

theorem bwd_fwd (c : Dev nD) (k : Fin 7) : bwd (fwd c k) k = c := by revert c k; decide
theorem fwd_bwd (c : Dev nD) (k : Fin 7) : fwd (bwd c k) k = c := by revert c k; decide

theorem sigDev_eq : ∀ (c : Dev nD) (k : Fin 7), sigDev c k = fwd c k := by decide +kernel
theorem copyDev_eq : ∀ (c : Dev nD) (t : Fin 4) (k : Fin 7), copyDev c t k = bwd c k := by decide +kernel

/-- Every device moved by `k + 1`. -/
def turn (k : Fin 7) : Dev nD ≃ Dev nD := ⟨fun c => fwd c k, fun c => bwd c k, fun c => bwd_fwd c k, fun c => fwd_bwd c k⟩

/-! ## Cells -/

/-- A tile and a peer. -/
abbrev TP : Type := Fin 4 × Fin 7
/-- A device's own cells: a send and a receive cell for each tile and peer; and all its cells, the barrier first. -/
abbrev Own : Type := TP ⊕ TP
abbrev CellIx : Type := Unit ⊕ Own

abbrev sendSem (p : TP) : DmaSem sig := semAt cc0_scratch2 p.2 p.1
abbrev recvSem (p : TP) : DmaSem sig := semAt cc0_scratch3 p.2 p.1

/-- A cell's semaphore. -/
def osem : Own → SemLoc sig
  | .inl p => .dma (sendSem p)
  | .inr p => .dma (recvSem p)
def csem : CellIx → SemLoc sig
  | .inl _ => .reg barSem
  | .inr o => osem o

theorem osem_injective : Function.Injective osem := by
  have h : ∀ a b : Own, osem a = osem b → a = b := by decide +kernel
  exact fun a b => h a b
theorem csem_injective : Function.Injective csem := by
  rintro (u | a) (v | b) h
  · rfl
  · rcases b with b | b <;> cases h
  · rcases a with a | a <;> cases h
  · exact congrArg Sum.inr (osem_injective h)

/-- Which cell a semaphore is, if it is one of them. -/
def cellAt (s : SemLoc sig) : Option CellIx := by
  classical exact if h : ∃ i, csem i = s then some h.choose else none

theorem cellAt_csem (i : CellIx) : cellAt (csem i) = some i := by
  have h : ∃ j, csem j = csem i := ⟨i, rfl⟩
  unfold cellAt; rw [dif_pos h]; exact congrArg some (csem_injective h.choose_spec)
theorem cellAt_none {s : SemLoc sig} (h : ∀ i, csem i ≠ s) : cellAt s = none := by
  unfold cellAt; rw [dif_neg fun ⟨i, hi⟩ => h i hi]

abbrev cellOn (c : Dev nD) (i : CellIx) : GSem nD τ sig := ((c : Thread nD τ), csem i)
abbrev barCell (c : Dev nD) : GSem nD τ sig := cellOn c (.inl ())
abbrev sendCell (c : Dev nD) (t : Fin 4) (k : Fin 7) : GSem nD τ sig := cellOn c (.inr (.inl (t, k)))
abbrev recvCell (c : Dev nD) (t : Fin 4) (k : Fin 7) : GSem nD τ sig := cellOn c (.inr (.inr (t, k)))

theorem cellOn_injective : Function.Injective (fun x : Dev nD × CellIx => cellOn x.1 x.2) := by
  rintro ⟨c, i⟩ ⟨d, j⟩ h
  have h1 : c = d := congrArg (fun g : GSem nD τ sig => g.1.1) h
  have h2 : i = j := csem_injective (congrArg (fun g : GSem nD τ sig => g.2) h)
  rw [h1, h2]

/-! ## Buffers -/

abbrev xM : Memref sig .tc .vmem S2x4096x512 .f32 := Memref.whole cc0_stg0_0
abbrev teM : Memref sig .tc .vmem S2x128 .f32 := Memref.whole cc0_stg1_0
abbrev wsM : Memref sig .tc .vmem S128x512 .f32 := Memref.whole cc0_stg2_0
abbrev whM : Memref sig .tc .vmem S128x512 .f32 := Memref.whole cc0_stg3_0
abbrev outM : Memref sig .tc .vmem S2x4096x512 .f32 := Memref.whole cc0_stg4_0
abbrev stM : Memref sig .tc .vmem S4x4096 .f32 := Memref.whole cc0_scratch0
abbrev cmM : Memref sig .tc .vmem S7x4x4096 .f32 := Memref.whole cc0_scratch1

abbrev stT (t : Fin 4) : Memref sig .tc .vmem S4x1024 .f32 := statM stM t
abbrev cmT (k : Fin 7) (t : Fin 4) : Memref sig .tc .vmem S4x1024 .f32 := commM cmM k t

/-- The credit of one copy. -/
abbrev N : ℕ := (stT 0).view.dmaCredit
theorem N_pos : 0 < N := View.dmaCredit_pos _ (by decide)
theorem credit_stT (t : Fin 4) : (stT t).view.dmaCredit = N := rfl
theorem credit_cmT (k : Fin 7) (t : Fin 4) : (cmT k t).view.dmaCredit = N := rfl

/-- The share of a tile's partial sums that stays with the device, and the one lent to each copy. -/
abbrev keep : PosShare TreeShare := ShareLeaves.leaf 3 fullShare 0
abbrev lent (k : Fin 7) : PosShare TreeShare := ShareLeaves.leaf 3 fullShare k.succ

/-- A part of a buffer of device `c`, held at share `q` and reading as `X`. -/
def held {s : Shape} (c : Dev nD) (a : Memref sig .tc .vmem s .f32) (q : PosShare TreeShare) (X : s.Idx → Elt F .f32) : sProp 𝕄 :=
  a.view.loc (c : Thread nD τ) ↦[a.view.set]{q} a.view.rep X

instance held_storable {s : Shape} (c : Dev nD) (a : Memref sig .tc .vmem s .f32) (q : PosShare TreeShare) (X : s.Idx → Elt F .f32) :
    BI.Storable (upEmb : UEmb _ 𝕄) (held c a q X) := by unfold held; infer_instance

theorem held_eq {s : Shape} (c : Dev nD) (a : Memref sig .tc .vmem s .f32) (q : PosShare TreeShare) (f : Buf (Elt F) (a.view.loc (c : Thread nD τ))) :
    (a.view.loc (c : Thread nD τ) ↦[a.view.set]{q} f : sProp 𝕄) = held c a q (a.view.read (Elt F) f) :=
  pointsTo_rep (c : Thread nD τ) a f q

/-! ## Contents -/

/-- A device's blocks of the arguments. -/
def xIn (c : Dev nD) : Vec F S2x4096x512 .f32 := iblk m c 0 t0_0
def teIn (c : Dev nD) : Vec F S2x128 .f32 := iblk m c 1 t0_0
def wsIn (c : Dev nD) : Vec F S128x512 .f32 := iblk m c 2 t0_0
def whIn (c : Dev nD) : Vec F S128x512 .f32 := iblk m c 3 t0_0

/-- Tile `t` of a device's block of `x`. -/
def xTile (c : Dev nD) (t : Fin 4) : Vec F S2x1024x512 .f32 := xM.view.readAt (Elt F) (rX t).toLoadRect (xIn m c)

/-- Two rows of sums over two rows of sums of squares. -/
def stack (a b : Vec F S2x1024 .f32) : Vec F S4x1024 .f32 := fun i =>
  if h : (i 0).val < 2 then a (ix2 (⟨(i 0).val, h⟩ : Fin 2) (i 1))
  else b (ix2 (⟨(i 0).val - 2, by have h4 : (i 0).val < 4 := (i 0).isLt; omega⟩ : Fin 2) (i 1))

/-- A device's partial sums of tile `t`; the same as they lie in the slot of a peer, with a leading axis of one. -/
def statOf (c : Dev nD) (t : Fin 4) : Vec F S4x1024 .f32 := stack (k0_pay2 (xTile m c t)) (k0_pay3 (xTile m c t))
def slotOf (c : Dev nD) (t : Fin 4) (k : Fin 7) : Vec F S1x4x1024 .f32 := fun i => statOf m (fwd c k) t (ix2 (i 1) (i 2))

/-- `1 + scale` and `shift` of a device's columns. -/
def scOf (c : Dev nD) : FVec F S2x1x512 .f32 :=
  scaleOf (teM.view.readAt (Elt F) rTe.toLoadRect (teIn m c)) (wsM.view.readAt (Elt F) rW.toLoadRect (wsIn m c))
def shOf (c : Dev nD) : FVec F S2x1x512 .f32 :=
  shiftOf (teM.view.readAt (Elt F) rTe.toLoadRect (teIn m c)) (whM.view.readAt (Elt F) rW.toLoadRect (whIn m c))

/-- Tile `t` of the result on device `c`, and the whole block. -/
def outTile (c : Dev nD) (t : Fin 4) : FVec F S2x1024x512 .f32 :=
  k0_pay21 (scOf m c) (shOf m c) (k0_pay19 (statOf m c t) (slotOf m c t 0) (slotOf m c t 1) (slotOf m c t 2) (slotOf m c t 3) (slotOf m c t 4) (slotOf m c t 5))
    (k0_pay20 (slotOf m c t 6)) (xTile m c t)
def outAt (c : Dev nD) : Vec F S2x4096x512 .f32 := fun i =>
  outTile m c (⟨(i 1).val / 1024, by have h : (i 1).val < 4096 := (i 1).isLt; omega⟩ : Fin 4)
    (ix3 (i 0) (⟨(i 1).val % 1024, Nat.mod_lt _ (by decide)⟩ : Fin 1024) (i 2))

/-! ## What each duty hands over -/

/-- The sender's `k`-th peer hands it its slot `k`, whatever lies there. -/
def barPay (c : Dev nD) (k : Fin 7) : sProp 𝕄 := bigSepL tiles fun t => iprop(∃ X, held (bwd c k) (cmT k t) fullShare X)
def sendPay (c : Dev nD) (p : TP) : sProp 𝕄 := held c (stT p.1) (lent p.2) (statOf m c p.1)
def recvPay (c : Dev nD) (p : TP) : sProp 𝕄 := held c (cmT p.2 p.1) fullShare (statOf m (fwd c p.2) p.1)

instance sendPay_storable (c : Dev nD) (p : TP) : BI.Storable (upEmb : UEmb _ 𝕄) (sendPay m c p) := by unfold sendPay; infer_instance
instance recvPay_storable (c : Dev nD) (p : TP) : BI.Storable (upEmb : UEmb _ 𝕄) (recvPay m c p) := by unfold recvPay; infer_instance
theorem bigSepL_storable {ι : Type} (Φ : ι → sProp 𝕄) (h : ∀ i, BI.Storable (upEmb : UEmb _ 𝕄) (Φ i)) :
    ∀ l : List ι, BI.Storable (upEmb : UEmb _ 𝕄) (bigSepL l Φ)
  | [] => by show BI.Storable (upEmb : UEmb _ 𝕄) iprop(emp); infer_instance
  | i :: l => by
    rw [bigSepL_cons]
    have := h i
    have := bigSepL_storable Φ h l
    show BI.Storable (upEmb : UEmb _ 𝕄) iprop(Φ i ∗ bigSepL l Φ)
    infer_instance
instance barPay_storable (c : Dev nD) (k : Fin 7) : BI.Storable (upEmb : UEmb _ 𝕄) (barPay (F := F) c k) :=
  bigSepL_storable _ (fun t => by infer_instance) _

/-! ## The schedule: one round -/

/-- The duties, the amounts and what they hand over, by the cell. -/
def dutiesOf : Option CellIx → Finset (Fin 7)
  | some (.inl _) => Finset.univ
  | some (.inr _) => {0}
  | none => ∅
def amountOf' : Option CellIx → ℕ
  | some (.inl _) => 1
  | _ => N
def payOf (c : Dev nD) (d : Fin 7) : Option CellIx → sProp 𝕄
  | some (.inl _) => barPay c d
  | some (.inr (.inl p)) => sendPay m c p
  | some (.inr (.inr p)) => recvPay m c p
  | none => iprop(emp)

instance payOf_storable (c : Dev nD) (d : Fin 7) (o : Option CellIx) : BI.Storable (upEmb : UEmb _ 𝕄) (payOf m c d o) := by
  rcases o with _ | _ | _ | _ <;> (simp only [payOf]; infer_instance)

def sched : Rounds.Schedule (GSem nD τ sig) (Fin 7) 𝕄 where
  duties g r := if r = 0 ∧ g.1.2 = .tc then dutiesOf (cellAt g.2) else ∅
  unitless _ := False
  amount g _ _ := amountOf' (cellAt g.2)
  payload g _ d := payOf m g.1.1 d (cellAt g.2)
  amount_pos g _ _ _ := by
    rcases cellAt g.2 with _ | _ | _
    · exact N_pos
    · exact Nat.one_pos
    · exact N_pos

instance sched_storable (g : GSem nD τ sig) (r : ℕ) (d : Fin 7) : BI.Storable (upEmb : UEmb _ 𝕄) ((sched (F := F) m).payload g r d) := by
  dsimp only [sched]; infer_instance

theorem duties_cell (c : Dev nD) (i : CellIx) : (sched (F := F) m).duties (cellOn c i) 0 = dutiesOf (some i) := by
  dsimp only [sched]; rw [if_pos ⟨rfl, rfl⟩, cellAt_csem]
theorem duties_later (g : GSem nD τ sig) : ∀ r, 1 ≤ r → (sched (F := F) m).duties g r = ∅ := fun r hr => by
  dsimp only [sched]; exact if_neg fun h => by omega
theorem amount_cell (c : Dev nD) (i : CellIx) (d : Fin 7) : (sched (F := F) m).amount (cellOn c i) 0 d = amountOf' (some i) := by
  dsimp only [sched]; rw [cellAt_csem]
theorem payload_cell (c : Dev nD) (i : CellIx) (d : Fin 7) : (sched (F := F) m).payload (cellOn c i) 0 d = payOf m c d (some i) := by
  dsimp only [sched]; rw [cellAt_csem]

theorem expect_bar (c : Dev nD) : (sched (F := F) m).expect (barCell c) 0 = 7 := by
  unfold Schedule.expect Schedule.amountOf
  rw [duties_cell, Finset.sum_congr rfl fun d _ => amount_cell m c _ d]; rfl
theorem expect_own (c : Dev nD) (o : Own) : (sched (F := F) m).expect (cellOn c (.inr o)) 0 = N := by
  unfold Schedule.expect Schedule.amountOf
  rw [duties_cell]; dsimp only [dutiesOf]; rw [Finset.sum_singleton, amount_cell]; rfl

/-- All of a cell's round, handed over at once. -/
theorem rest_bar (c : Dev nD) : bigSep ((sched (F := F) m).duties (barCell c) 0 \ ∅) (fun d => (sched (F := F) m).payload (barCell c) 0 d)
    = bigSepL peers fun k => barPay c k := by
  rw [Finset.sdiff_empty, duties_cell, bigSep_congr fun d _ => payload_cell m c _ d]
  exact bigSep_univ_eq_bigSepL peers (by decide) (by decide) _
theorem rest_own (c : Dev nD) (o : Own) :
    bigSep ((sched (F := F) m).duties (cellOn c (.inr o)) 0 \ ∅) (fun d => (sched (F := F) m).payload (cellOn c (.inr o)) 0 d)
      = payOf m c 0 (some (.inr o)) := by
  rw [Finset.sdiff_empty, duties_cell]; dsimp only [dutiesOf]; rw [bigSep_singleton, payload_cell]

/-! ## What a device owes, and the levels -/

/-- The sum of a list's tallies. -/
def owed {ι : Type} (l : List ι) (f : ι → CellTallies nD τ sig Unit) : CellTallies nD τ sig Unit := (l.map f).sum
theorem owed_cons {ι : Type} (i : ι) (l : List ι) (f : ι → CellTallies nD τ sig Unit) : owed (i :: l) f = owed l f + f i := by
  unfold owed; rw [List.map_cons, List.sum_cons, add_comm]
theorem owed_nil {ι : Type} (f : ι → CellTallies nD τ sig Unit) : owed [] f = 0 := rfl

/-- The credit a device's copies of a tile put on its peers' receive cells; its signals' on their barrier cells. -/
abbrev dueCopy (c : Dev nD) (t : Fin 4) (k : Fin 7) : CellTallies nD τ sig Unit := tallyAt (recvCell (bwd c k) t k) () N
abbrev dueCopies (c : Dev nD) (t : Fin 4) : CellTallies nD τ sig Unit := owed peers (dueCopy c t)
abbrev dueSignal (c : Dev nD) (k : Fin 7) : CellTallies nD τ sig Unit := tallyAt (barCell (fwd c k)) () 1
def O₀ (c : Dev nD) : CellTallies nD τ sig Unit := owed tiles (dueCopies c) + owed peers (dueSignal c)

def L (g : GSem nD τ sig) : Finset Unit := if g.1.2 = .tc then {()} else ∅
/-- Barrier cells below receive cells; all others below both. -/
def lvOf : Option CellIx → ℕ
  | some (.inl _) => 1
  | some (.inr (.inr _)) => 2
  | _ => 0
def lv (g : GSem nD τ sig) (_ : Unit) : ℕ := lvOf (cellAt g.2)

theorem L_of_ne (g : GSem nD τ sig) (h : g.1.2 ≠ .tc) : L g = ∅ := if_neg h
theorem L_tc (c : Dev nD) (s : SemLoc sig) : L ((c : Thread nD τ), s) = {()} := if_pos rfl
theorem lv_cell (c : Dev nD) (i : CellIx) (u : Unit) : lv (cellOn c i) u = lvOf (some i) := by unfold lv; rw [cellAt_csem]

theorem owed_pos {ι : Type} {l : List ι} {f : ι → CellTallies nD τ sig Unit} {g : GSem nD τ sig} {u : Unit} (h : 0 < owed l f g u) :
    ∃ i, 0 < f i g u := by
  induction l with
  | nil => exact absurd h (Nat.lt_irrefl 0)
  | cons i l ih =>
    rw [owed_cons, Pi.add_apply, Finsupp.add_apply] at h
    rcases Nat.eq_zero_or_pos (f i g u) with h0 | h0
    · rw [h0] at h; exact ih h
    · exact ⟨i, h0⟩

theorem copies_pos {c : Dev nD} {g : GSem nD τ sig} {u : Unit} (h : 0 < owed tiles (dueCopies c) g u) : ∃ t k, g = recvCell (bwd c k) t k := by
  obtain ⟨t, ht⟩ := owed_pos h
  obtain ⟨k, hk⟩ := owed_pos ht
  exact ⟨t, k, (Pipeline.tallyAt_pos hk).1⟩
theorem signals_pos {c : Dev nD} {g : GSem nD τ sig} {u : Unit} (h : 0 < owed peers (dueSignal c) g u) : ∃ k, g = barCell (fwd c k) := by
  obtain ⟨k, hk⟩ := owed_pos h
  exact ⟨k, (Pipeline.tallyAt_pos hk).1⟩

/-- At its barrier wait a device owes only receive cells, all above its barrier cell. -/
theorem mayWait_bar (c : Dev nD) : (levAts L lv : sProp 𝕄) ⊢ MayWait (c : Thread nD τ) (csem (.inl ())) () (owed tiles (dueCopies c)) :=
  MayOwe.of_cut (L := L) (lev := lv) 1 (fun p hp => by rw [Finset.mem_singleton.mp hp, L_tc]; exact Finset.mem_singleton_self _)
    (fun g u hg => by obtain ⟨t, k, rfl⟩ := copies_pos hg; exact Finset.mem_singleton_self _)
    (fun p hp => by rw [Finset.mem_singleton.mp hp]; exact (lv_cell c (.inl ()) ()).le)
    (fun g u hg => by obtain ⟨t, k, rfl⟩ := copies_pos hg; rw [lv_cell]; exact (by decide : 1 < 2))

/-- A staging wait is allowed with all of `O₀` owed. -/
theorem mayWait_stage (c : Dev nD) (s : SemLoc sig) (hs : ∀ i, csem i ≠ s) (O : CellTallies nD τ sig Unit) (hO : O = O₀ c ∨ O = 0) :
    (levAts L lv : sProp 𝕄) ⊢ MayWait (c : Thread nD τ) s () O := by
  rcases hO with rfl | rfl
  · have h0 {g : GSem nD τ sig} {u : Unit} (hg : 0 < O₀ c g u) : (∃ d i, g = cellOn d i) ∧ 0 < lv g u := by
      unfold O₀ at hg
      rw [Pi.add_apply, Finsupp.add_apply] at hg
      rcases Nat.eq_zero_or_pos (owed tiles (dueCopies c) g u) with h | h
      · rw [h, Nat.zero_add] at hg
        obtain ⟨k, rfl⟩ := signals_pos hg
        exact ⟨⟨_, _, rfl⟩, by rw [lv_cell]; exact Nat.one_pos⟩
      · obtain ⟨t, k, rfl⟩ := copies_pos h
        exact ⟨⟨_, _, rfl⟩, by rw [lv_cell]; exact Nat.two_pos⟩
    refine MayOwe.of_cut (L := L) (lev := lv) 0 (fun p hp => by rw [Finset.mem_singleton.mp hp, L_tc]; exact Finset.mem_singleton_self _)
      (fun g u hg => ?_) (fun p hp => ?_) (fun g u hg => (h0 hg).2)
    · obtain ⟨⟨d, i, rfl⟩, -⟩ := h0 hg; exact Finset.mem_singleton_self _
    · rw [Finset.mem_singleton.mp hp]; unfold lv; rw [cellAt_none hs]; exact le_refl 0
  · rw [MayWait_zero]; iintro -; iempintro

end Cert.KernelIdeal.Run

end
-- ==== Proof.Memory.lean ====
/-
# The parts of the buffers

The partial sums are held tile by tile, the landing buffer slot by slot and tile by tile, and a tile's partial sums share by share; what the
loads read off these parts and what the stores leave in them.
-/
module

public import proofs.«01_k».proof.Proof.Protocol
public import Idealize.ShloMosaic.Lib.ValueLayout
public import Idealize.ShloMosaic.Lib.ViewIndex

@[expose] public section

set_option maxRecDepth 16384

noncomputable section

namespace Cert.KernelIdeal.Run

open Cert.KernelIdeal Cert.KernelIdeal.Gen
open Idealize.ShloMosaic
open Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Tiles are apart and cover -/

theorem stT_set (t : Fin 4) : (stT t).view.set = (rStat t).set := View.set_slice_whole cc0_scratch0 (rStat t)
theorem cmT_set (k : Fin 7) (t : Fin 4) : (cmT k t).view.set = (rComm k t).set :=
  (View.set_reshape (v := cmM.view.slice (rComm k t)) _).trans (View.set_slice_whole cc0_scratch1 (rComm k t))

theorem mem_rStat (t : Fin 4) (i : S4x4096.Idx) : i ∈ (rStat t).set ↔ (i 1).val / 1024 = t.val := by
  rw [Rect.mem_set_unit]
  have h0 : (i 0).val < 4 := (i 0).isLt
  constructor
  · intro h
    have h1 : 1024 * t.val ≤ (i 1).val ∧ (i 1).val < 1024 * t.val + 1024 := h 1
    omega
  · intro h a
    match a with
    | ⟨0, _⟩ => exact ⟨Nat.zero_le _, by show (i 0).val < 0 + 4; omega⟩
    | ⟨1, _⟩ => exact show 1024 * t.val ≤ (i 1).val ∧ (i 1).val < 1024 * t.val + 1024 by omega

theorem mem_rComm (k : Fin 7) (t : Fin 4) (i : S7x4x4096.Idx) : i ∈ (rComm k t).set ↔ (i 0).val = k.val ∧ (i 2).val / 1024 = t.val := by
  rw [Rect.mem_set_unit]
  have h1 : (i 1).val < 4 := (i 1).isLt
  constructor
  · intro h
    have h0 : k.val ≤ (i 0).val ∧ (i 0).val < k.val + 1 := h 0
    have h2 : 1024 * t.val ≤ (i 2).val ∧ (i 2).val < 1024 * t.val + 1024 := h 2
    omega
  · intro h a
    match a with
    | ⟨0, _⟩ => exact show k.val ≤ (i 0).val ∧ (i 0).val < k.val + 1 by omega
    | ⟨1, _⟩ => exact ⟨Nat.zero_le _, by show (i 1).val < 0 + 4; omega⟩
    | ⟨2, _⟩ => exact show 1024 * t.val ≤ (i 2).val ∧ (i 2).val < 1024 * t.val + 1024 by omega

theorem mem_rX (t : Fin 4) (i : S2x4096x512.Idx) : i ∈ (rX t).set ↔ (i 1).val / 1024 = t.val := by
  rw [Rect.mem_set_unit]
  have h0 : (i 0).val < 2 := (i 0).isLt
  have h2 : (i 2).val < 512 := (i 2).isLt
  constructor
  · intro h
    have h1 : 1024 * t.val ≤ (i 1).val ∧ (i 1).val < 1024 * t.val + 1024 := h 1
    omega
  · intro h a
    match a with
    | ⟨0, _⟩ => exact ⟨Nat.zero_le _, by show (i 0).val < 0 + 2; omega⟩
    | ⟨1, _⟩ => exact show 1024 * t.val ≤ (i 1).val ∧ (i 1).val < 1024 * t.val + 1024 by omega
    | ⟨2, _⟩ => exact ⟨Nat.zero_le _, by show (i 2).val < 0 + 512; omega⟩

/-- The part of the sums' buffer that tile `t` is; the part of the landing buffer that slot `k` of tile `t` is. -/
abbrev stPart (t : Fin 4) : Finset S4x4096.Idx := (stT t).view.set
abbrev cmPart (p : Fin 7 × Fin 4) : Finset S7x4x4096.Idx := (cmT p.1 p.2).view.set

theorem stPart_apart (t u : Fin 4) (h : t ≠ u) : Disjoint (stPart t) (stPart u) := by
  refine Finset.disjoint_left.mpr fun i hi hj => h (Fin.ext ?_)
  have h1 := (mem_rStat t i).mp (stT_set t ▸ hi)
  have h2 := (mem_rStat u i).mp (stT_set u ▸ hj)
  omega
theorem stPart_cover : Finset.univ.biUnion stPart = Finset.univ := by
  refine Finset.eq_univ_iff_forall.mpr fun i => Finset.mem_biUnion.mpr
    ⟨⟨(i 1).val / 1024, by have h : (i 1).val < 4096 := (i 1).isLt; omega⟩, Finset.mem_univ _, ?_⟩
  rw [show stPart _ = (rStat _).set from stT_set _]; exact (mem_rStat _ i).mpr rfl
theorem cmPart_apart (p q : Fin 7 × Fin 4) (h : p ≠ q) : Disjoint (cmPart p) (cmPart q) := by
  refine Finset.disjoint_left.mpr fun i hi hj => h ?_
  have h1 := (mem_rComm p.1 p.2 i).mp (cmT_set p.1 p.2 ▸ hi)
  have h2 := (mem_rComm q.1 q.2 i).mp (cmT_set q.1 q.2 ▸ hj)
  exact Prod.ext (Fin.ext (by omega)) (Fin.ext (by omega))
theorem cmPart_cover : Finset.univ.biUnion cmPart = Finset.univ := by
  refine Finset.eq_univ_iff_forall.mpr fun i => Finset.mem_biUnion.mpr
    ⟨(i 0, ⟨(i 2).val / 1024, by have h : (i 2).val < 4096 := (i 2).isLt; omega⟩), Finset.mem_univ _, ?_⟩
  rw [show cmPart _ = (rComm _ _).set from cmT_set _ _]; exact (mem_rComm _ _ i).mpr ⟨rfl, rfl⟩

/-! ## Whole buffers and their parts -/

/-- The sums' buffer, whatever it holds; the landing buffer likewise. -/
abbrev stAny (c : Dev nD) : sProp 𝕄 := iprop(∃ f : Buf (Elt F) ((c : Thread nD τ).loc cc0_scratch0), ((c : Thread nD τ).loc cc0_scratch0) ↦{fullShare} f)
abbrev cmAny (c : Dev nD) : sProp 𝕄 := iprop(∃ f : Buf (Elt F) ((c : Thread nD τ).loc cc0_scratch1), ((c : Thread nD τ).loc cc0_scratch1) ↦{fullShare} f)

theorem held_intro {s : Shape} (c : Dev nD) (a : Memref sig .tc .vmem s .f32) (f : Buf (Elt F) (a.view.loc (c : Thread nD τ))) :
    (a.view.loc (c : Thread nD τ) ↦[a.view.set]{fullShare} f) ⊢ (iprop(∃ X, held c a fullShare X) : sProp 𝕄) := by
  iintro H
  iexists a.view.read (Elt F) f
  iapply (Entails.of_eq (held_eq c a fullShare f)); iexact H
theorem held_elim {s : Shape} (c : Dev nD) (a : Memref sig .tc .vmem s .f32) :
    (iprop(∃ X, held c a fullShare X) : sProp 𝕄) ⊢ iprop(∃ f : Buf (Elt F) (a.view.loc (c : Thread nD τ)), a.view.loc (c : Thread nD τ) ↦[a.view.set]{fullShare} f) := by
  iintro ⟨%X, H⟩
  iexists a.view.rep X
  unfold held; iexact H

theorem st_split (c : Dev nD) : stAny c ⊢ (bigSepL tiles fun t => iprop(∃ X, held c (stT t) fullShare X) : sProp 𝕄) := by
  rw [← bigSep_univ_eq_bigSepL tiles (by decide) (by decide)]
  iintro ⟨%f, H⟩
  have h := (Entails.of_eq (Ring.pointsTo_blocks (ℓ := (c : Thread nD τ).loc cc0_scratch0) stPart stPart_apart stPart_cover f)).trans
    (bigSep_mono fun t _ => show _ ⊢ (iprop(∃ X, held c (stT t) fullShare X) : sProp 𝕄) from held_intro c (stT t) f)
  iapply h; iexact H
theorem st_join (c : Dev nD) : (bigSepL tiles fun t => iprop(∃ X, held c (stT t) fullShare X) : sProp 𝕄) ⊢ stAny c := by
  rw [← bigSep_univ_eq_bigSepL tiles (by decide) (by decide)]
  refine (bigSep_mono fun t _ => show _ ⊢ (iprop(∃ f : Buf (Elt F) ((c : Thread nD τ).loc cc0_scratch0), (c : Thread nD τ).loc cc0_scratch0 ↦[stPart t]{fullShare} f) : sProp 𝕄)
    from held_elim c (stT t)).trans (Ring.pointsTo_blocks_join_exists (ℓ := (c : Thread nD τ).loc cc0_scratch0) stPart stPart_apart stPart_cover (fun _ => Scalar.ofBits .f32 0#32))
theorem cm_split (c : Dev nD) : cmAny c ⊢ (bigSepL peers fun k => bigSepL tiles fun t => iprop(∃ X, held c (cmT k t) fullShare X) : sProp 𝕄) := by
  rw [← bigSep_univ_eq_bigSepL peers (by decide) (by decide)]
  simp only [← bigSep_univ_eq_bigSepL tiles (by decide) (by decide)]
  rw [← bigSep_univ_prod (fun p : Fin 7 × Fin 4 => iprop(∃ X, held c (cmT p.1 p.2) fullShare X))]
  iintro ⟨%f, H⟩
  have h := (Entails.of_eq (Ring.pointsTo_blocks (ℓ := (c : Thread nD τ).loc cc0_scratch1) cmPart cmPart_apart cmPart_cover f)).trans
    (bigSep_mono fun p _ => show _ ⊢ (iprop(∃ X, held c (cmT p.1 p.2) fullShare X) : sProp 𝕄) from held_intro c (cmT p.1 p.2) f)
  iapply h; iexact H
theorem cm_join (c : Dev nD) : (bigSepL peers fun k => bigSepL tiles fun t => iprop(∃ X, held c (cmT k t) fullShare X) : sProp 𝕄) ⊢ cmAny c := by
  rw [← bigSep_univ_eq_bigSepL peers (by decide) (by decide)]
  simp only [← bigSep_univ_eq_bigSepL tiles (by decide) (by decide)]
  rw [← bigSep_univ_prod (fun p : Fin 7 × Fin 4 => iprop(∃ X, held c (cmT p.1 p.2) fullShare X))]
  refine (bigSep_mono fun p _ => show _ ⊢ (iprop(∃ f : Buf (Elt F) ((c : Thread nD τ).loc cc0_scratch1), (c : Thread nD τ).loc cc0_scratch1 ↦[cmPart p]{fullShare} f) : sProp 𝕄)
    from held_elim c (cmT p.1 p.2)).trans (Ring.pointsTo_blocks_join_exists (ℓ := (c : Thread nD τ).loc cc0_scratch1) cmPart cmPart_apart cmPart_cover (fun _ => Scalar.ofBits .f32 0#32))

/-- A part at the full share is the share kept and the seven lent. -/
theorem held_shares {s : Shape} (c : Dev nD) (a : Memref sig .tc .vmem s .f32) (X : s.Idx → Elt F .f32) :
    (held c a fullShare X : sProp 𝕄) = iprop(held c a keep X ∗ bigSepL peers fun k => held c a (lent k) X) := by
  unfold held
  rw [ShareLeaves.pointsTo_leaves _ _ 3 fullShare]
  exact bigSep_univ_eq_bigSepL [0, 1, 2, 3, 4, 5, 6, 7] (by decide) (by decide) _

/-! ## Loads and stores -/

/-- The tile's rows of sums, and those of sums of squares, are parts of the tile. -/
theorem rSum_sub (t : Fin 4) : (stM.access (rSum t)).setOn Finset.univ ⊆ (stT t).view.set := by
  show (stM.access (rSum t)).set ⊆ _
  rw [stT_set, View.set_slice_whole]
  intro i hi
  rw [mem_rStat]
  have h1 : 1024 * t.val ≤ (i 1).val ∧ (i 1).val < 1024 * t.val + 1024 := Rect.mem_set_unit.mp hi 1
  omega
theorem rSq_sub (t : Fin 4) : (stM.access (rSq t)).setOn Finset.univ ⊆ (stT t).view.set := by
  show (stM.access (rSq t)).set ⊆ _
  rw [stT_set, View.set_slice_whole]
  intro i hi
  rw [mem_rStat]
  have h1 : 1024 * t.val ≤ (i 1).val ∧ (i 1).val < 1024 * t.val + 1024 := Rect.mem_set_unit.mp hi 1
  omega

/-- After both stores the tile reads as the two rows of sums over the two rows of sums of squares. -/
theorem read_stores (t : Fin 4) (f : (cc0_scratch0 : Ref sig .tc).ty.Contents (Elt F)) (a b : Vec F S2x1024 .f32) :
    (stT t).view.read (Elt F) ((stM.access (rSq t)).write (Elt F) ((stM.access (rSum t)).write (Elt F) f a Finset.univ) b Finset.univ) = stack a b := by
  funext y
  have h0 : (y 0).val < 4 := (y 0).isLt
  unfold stack
  by_cases h : (y 0).val < 2
  · rw [dif_pos h]
    have e : (stT t).view.emb y = (stM.access (rSum t)).emb (ix2 (⟨(y 0).val, h⟩ : Fin 2) (y 1)) :=
      funext fun d => match d with
        | ⟨0, _⟩ => Fin.ext (by show 0 + 1 * (y 0).val = 0 + 1 * (y 0).val; rfl)
        | ⟨1, _⟩ => Fin.ext rfl
    rw [View.read_apply, e, View.write_of_not_mem, View.write_emb_of_mem _ _ (Finset.mem_univ _)]
    · rfl
    · show _ ∉ (stM.access (rSq t)).set
      rw [View.set_slice_whole]
      intro hm
      have h2 : 2 ≤ 0 + 1 * (y 0).val := (Rect.mem_set_unit.mp hm 0).1
      omega
  · rw [dif_neg h]
    have e : (stT t).view.emb y = (stM.access (rSq t)).emb (ix2 (⟨(y 0).val - 2, by omega⟩ : Fin 2) (y 1)) :=
      funext fun d => match d with
        | ⟨0, _⟩ => Fin.ext (by show 0 + 1 * (y 0).val = 2 + 1 * ((y 0).val - 2); omega)
        | ⟨1, _⟩ => Fin.ext rfl
    rw [View.read_apply, e, View.write_emb_of_mem _ _ (Finset.mem_univ _)]
    rfl

/-- A load of a tile of the sums reads what is held there. -/
theorem readAt_st (t : Fin 4) (X : S4x1024.Idx → Elt F .f32) : stM.view.readAt (Elt F) (rStat t).toLoadRect ((stT t).view.rep X) = X :=
  View.read_rep (stT t).view X
/-- A tile's entry and the entry of the same tile with a leading axis of one. -/
theorem squeeze_at (h : S4x1024.numel = S1x4x1024.numel) (i : S1x4x1024.Idx) :
    Shape.reshapeEquiv h (ix2 (n0 := 4) (n1 := 1024) (i 1) (i 2)) = i := by
  refine (ValueIdx.reshapeEquiv_ix2_1ab h (i 1) (i 2)).trans (funext fun d => ?_)
  have h0 : (i 0).val < 1 := (i 0).isLt
  match d with
  | ⟨0, _⟩ => exact Fin.ext (by show 0 = (i 0).val; omega)
  | ⟨1, _⟩ => rfl
  | ⟨2, _⟩ => rfl
/-- A load of a tile of a slot reads what is held there, with a leading axis of one. -/
theorem readAt_cm (k : Fin 7) (t : Fin 4) (X : S4x1024.Idx → Elt F .f32) :
    cmM.view.readAt (Elt F) (rComm k t).toLoadRect ((cmT k t).view.rep X) = fun i : S1x4x1024.Idx => X (ix2 (n0 := 4) (n1 := 1024) (i 1) (i 2)) :=
  funext fun i => (congrArg ((cmM.view.slice (rComm k t)).read (Elt F) ((cmT k t).view.rep X)) (squeeze_at _ i).symm).trans
    (congrFun (View.read_rep (cmT k t).view X) (ix2 (n0 := 4) (n1 := 1024) (i 1) (i 2)))

/-- A load of a tile of the sums touches that tile only; a load of a tile of a slot likewise. -/
theorem load_st (t : Fin 4) : stM.view.setOn (rStat t).toLoadRect.set ⊆ (stT t).view.set := by
  exact (View.set_slice (v := stM.view) (rStat t)).ge

theorem load_sum (t : Fin 4) : stM.view.setOn (rSum t).toLoadRect.set ⊆ (stT t).view.set :=
  (View.set_slice (v := stM.view) (rSum t)).ge.trans (rSum_sub t)
theorem load_sq (t : Fin 4) : stM.view.setOn (rSq t).toLoadRect.set ⊆ (stT t).view.set :=
  (View.set_slice (v := stM.view) (rSq t)).ge.trans (rSq_sub t)
theorem load_cm (k : Fin 7) (t : Fin 4) : cmM.view.setOn (rComm k t).toLoadRect.set ⊆ (cmT k t).view.set := by
  refine (View.set_slice (v := cmM.view) (rComm k t)).ge.trans ?_
  rw [cmT_set]
  exact (View.set_slice_whole cc0_scratch1 (rComm k t)).le

/-! ## The result's tiles -/

/-- Tile `t` of the result, read off the result's buffer. -/
abbrev outRead (t : Fin 4) (f : (cc0_stg4_0 : Ref sig .tc).ty.Contents (Elt F)) : Vec F S2x1024x512 .f32 := outM.view.readAt (Elt F) (rX t).toLoadRect f

theorem outRead_same (t : Fin 4) (f : (cc0_stg4_0 : Ref sig .tc).ty.Contents (Elt F)) (w : Vec F S2x1024x512 .f32) :
    outRead t ((outM.access (rX t)).write (Elt F) f w Finset.univ) = w := View.read_write_univ _ _
theorem outRead_other (t u : Fin 4) (h : u ≠ t) (f : (cc0_stg4_0 : Ref sig .tc).ty.Contents (Elt F)) (w : Vec F S2x1024x512 .f32) :
    outRead u ((outM.access (rX t)).write (Elt F) f w Finset.univ) = outRead u f := by
  funext y
  show (outM.access (rX u)).read (Elt F) _ y = (outM.access (rX u)).read (Elt F) _ y
  rw [View.read_apply, View.read_apply, View.write_of_not_mem]
  intro hm
  have h1 : (outM.access (rX u)).emb y ∈ (rX t).set := (View.set_slice_whole cc0_stg4_0 (rX t)) ▸ hm
  have h2 : (outM.access (rX u)).emb y ∈ (rX u).set := (View.set_slice_whole cc0_stg4_0 (rX u)) ▸ View.emb_mem_set _ y
  exact h (Fin.ext (((mem_rX u _).mp h2).symm.trans ((mem_rX t _).mp h1)))

/-- All four tiles together are the block. -/
theorem out_whole (c : Dev nD) (f : (cc0_stg4_0 : Ref sig .tc).ty.Contents (Elt F)) (h : ∀ t, outRead t f = outTile m c t) : f = outAt m c := by
  funext i
  have h1 : (i 1).val < 4096 := (i 1).isLt
  have e := congrFun (h ⟨(i 1).val / 1024, by omega⟩) (ix3 (i 0) (⟨(i 1).val % 1024, Nat.mod_lt _ (by decide)⟩ : Fin 1024) (i 2))
  refine Eq.trans ?_ e
  show f i = f ((rX _).emb _)
  congr 1
  funext d
  match d with
  | ⟨0, _⟩ => exact Fin.ext (by show (i 0).val = 0 + 1 * (i 0).val; omega)
  | ⟨1, _⟩ => exact Fin.ext (by show (i 1).val = 1024 * ((i 1).val / 1024) + 1 * ((i 1).val % 1024); omega)
  | ⟨2, _⟩ => exact Fin.ext (by show (i 2).val = 0 + 1 * (i 2).val; omega)

end Cert.KernelIdeal.Run

end
-- ==== Proof.Steps.lean ====
/-
# The kernel's steps

One rule for a loop, one lemma for each of its steps: a signal, a copy, a tile's sums and copies, an arrival, a tile of the result,
a departure.
-/
module

public import proofs.«01_k».proof.Proof.Memory
public import Idealize.ShloMosaic.Lib.Pipeline.BigSepL

@[expose] public section

set_option maxRecDepth 16384

noncomputable section

namespace Cert.KernelIdeal.Run

open Cert.KernelIdeal Cert.KernelIdeal.Gen
open Idealize.ShloMosaic
open Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- A program of device `c` run to `Q`. -/
abbrev runs (c : Dev nD) {α : Type} (p : TC F α) (Q : α → sProp 𝕄) : sProp 𝕄 :=
  wp frame (wpE (defs₀ (F := F)) 𝒱₀ (c : Thread nD τ) none) Set.univ p Q

/-- Every cell's invariant, under the names `K`, and that every cell has reached its round. -/
def records (K : Dev nD × CellIx → ℕ) : sProp 𝕄 :=
  iprop((bigSep Finset.univ fun ci : Dev nD × CellIx => cellInv ER (sched m) (K ci) (cellOn ci.1 ci.2))
    ∗ bigSep Finset.univ fun ci : Dev nD × CellIx => reached ER (cellOn ci.1 ci.2) 0)

instance records_persistent (K : Dev nD × CellIx → ℕ) : BI.Persistent (records m K) := by unfold records; infer_instance

theorem records_inv (K : Dev nD × CellIx → ℕ) (c : Dev nD) (i : CellIx) : records m K ⊢ cellInv ER (sched m) (K (c, i)) (cellOn c i) := by
  unfold records
  iintro ⟨H, -⟩
  have h : (bigSep Finset.univ fun ci : Dev nD × CellIx => (cellInv ER (sched m) (K ci) (cellOn ci.1 ci.2) : sProp 𝕄))
      ⊢ cellInv ER (sched m) (K (c, i)) (cellOn c i) := bigSep_elim (Finset.mem_univ (c, i))
  iapply h
  iexact H
theorem records_reached (K : Dev nD × CellIx → ℕ) (c : Dev nD) (i : CellIx) : records m K ⊢ reached ER (cellOn c i) 0 := by
  unfold records
  iintro ⟨-, H⟩
  have h : (bigSep Finset.univ fun ci : Dev nD × CellIx => (reached ER (cellOn ci.1 ci.2) 0 : sProp 𝕄))
      ⊢ reached ER (cellOn c i) 0 := bigSep_elim (Finset.mem_univ (c, i))
  iapply h
  iexact H

/-- A device owing `O`, whatever it has waited for. -/
def owing (c : Dev nD) (O : CellTallies nD τ sig Unit) : sProp 𝕄 := iprop(∃ W, owes (c : Thread nD τ) O W)

theorem bigSepL_both {ι : Type} (Φ Ψ : ι → sProp 𝕄) : ∀ l : List ι,
    bigSepL l (fun i => iprop(Φ i ∗ Ψ i)) = iprop(bigSepL l Φ ∗ bigSepL l Ψ)
  | [] => (equiv_iff.mp BI.sep_emp).symm
  | i :: l => by
    rw [bigSepL_cons', bigSepL_cons', bigSepL_cons', bigSepL_both Φ Ψ l]
    have h1 : iprop((Φ i ∗ Ψ i) ∗ (bigSepL l Φ ∗ bigSepL l Ψ)) ⊢ iprop((Φ i ∗ bigSepL l Φ) ∗ (Ψ i ∗ bigSepL l Ψ)) := by
      iintro ⟨⟨H1, H2⟩, H3, H4⟩
      isplitl [H1 H3]
      · isplitl [H1] <;> iassumption
      · isplitl [H2] <;> iassumption
    have h2 : iprop((Φ i ∗ bigSepL l Φ) ∗ (Ψ i ∗ bigSepL l Ψ)) ⊢ iprop((Φ i ∗ Ψ i) ∗ (bigSepL l Φ ∗ bigSepL l Ψ)) := by
      iintro ⟨⟨H1, H2⟩, H3, H4⟩
      isplitl [H1 H3]
      · isplitl [H1] <;> iassumption
      · isplitl [H2] <;> iassumption
    exact equiv_iff.mp ⟨h1, h2⟩
theorem bigSepL_zip {ι : Type} (l : List ι) (Φ Ψ : ι → sProp 𝕄) :
    iprop(bigSepL l Φ ∗ bigSepL l Ψ) ⊢ bigSepL l (fun i => iprop(Φ i ∗ Ψ i)) := Entails.of_eq (bigSepL_both Φ Ψ l).symm

/-- A loop: each step turns `P i` into `Q i`, carrying along what depends on the elements still to come. -/
theorem runs_forAll {ι : Type} (c : Dev nD) (p : ι → TC F PUnit) (R : sProp 𝕄) [BI.Persistent R] (T : List ι → sProp 𝕄) (P Q : ι → sProp 𝕄)
    (step : ∀ i rest (Kt : PUnit → sProp 𝕄), iprop(R ∗ T (i :: rest) ∗ P i ∗ ((T rest ∗ Q i) -∗ Kt ⟨⟩)) ⊢ runs c (p i) Kt) :
    ∀ (l : List ι) (Kt : PUnit → sProp 𝕄), iprop(R ∗ T l ∗ bigSepL l P ∗ ((T [] ∗ bigSepL l Q) -∗ Kt ⟨⟩)) ⊢ runs c (forAll l p) Kt
  | [], Kt => by
    unfold forAll
    rw [Prog.pure_eq_ret, runs, wp_ret]
    iintro ⟨-, HT, HP, HK⟩
    imodintro
    iapply HK
    isplitl [HT]; · iexact HT
    iexact HP
  | i :: l, Kt => by
    show _ ⊢ runs c (p i >>= fun _ => forAll l p) Kt
    rw [runs, wp_bind, bigSepL_cons', bigSepL_cons']
    iintro ⟨#HR, HT, ⟨HP, HPs⟩, HK⟩
    iapply (step i l _)
    isplitr; · iexact HR
    isplitl [HT]; · iexact HT
    isplitl [HP]; · iexact HP
    iintro ⟨HT, HQ⟩
    iapply (runs_forAll c p R T P Q step l Kt)
    isplitr; · iexact HR
    isplitl [HT]; · iexact HT
    isplitl [HPs]; · iexact HPs
    iintro ⟨HT, HQs⟩
    iapply HK
    isplitl [HT]; · iexact HT
    isplitl [HQ]; · iexact HQ
    iexact HQs

section Steps

variable (K : Dev nD × CellIx → ℕ) (c : Dev nD)

theorem bar_payload (k : Fin 7) :
    (bigSepL tiles fun t => iprop(∃ X, held c (cmT k t) fullShare X) : sProp 𝕄) = (sched m).payload ((fwd c k : Thread nD τ), SemLoc.reg barSem) 0 k := by
  show _ = (sched m).payload (cellOn (fwd c k) (.inl ())) 0 k
  rw [payload_cell]; dsimp only [payOf]; unfold barPay; rw [bwd_fwd]

/-- A signal: slot `k` of the landing buffer goes to the device signalled. -/
theorem runs_signal (A : CellTallies nD τ sig Unit) (k : Fin 7) (rest : List (Fin 7)) (Kt : PUnit → sProp 𝕄) :
    iprop(records m K ∗ owing c (A + owed (k :: rest) (dueSignal c))
        ∗ (dutyTok ER (barCell (fwd c k)) 0 k ∗ bigSepL tiles fun t => iprop(∃ X, held c (cmT k t) fullShare X))
        ∗ ((owing c (A + owed rest (dueSignal c)) ∗ emp) -∗ Kt ⟨⟩))
      ⊢ runs c (signal (F := F) c k) Kt := by
  unfold signal semSignalWord owing
  rw [sigDev_eq]
  iintro ⟨#HR, ⟨%W, HO⟩, ⟨Htok, Hslot⟩, HK⟩
  iapply (Rounds.wp_signal 𝒱₀ ER (sched m) (c : Thread nD τ) none (dst := (fwd c k : Thread nD τ)) (κ := K (fwd c k, .inl ()))
      (d := k) (O₀ := A + owed (k :: rest) (dueSignal c)) (by show k ∈ (sched m).duties (cellOn (fwd c k) (.inl ())) 0; rw [duties_cell]; exact Finset.mem_univ _) ((amount_cell m (fwd c k) (.inl ()) k).trans (by decide)) ()
      (A + owed rest (dueSignal c)) (by rw [owed_cons, add_assoc]; rfl)) $$ [HO Htok Hslot]
  · isplitr; · iapply (records_inv m K (fwd c k) (.inl ())); iexact HR
    isplitl [HO]; · iexact HO
    isplitl [Htok]; · iexact Htok
    isplitl [Hslot]
    · iapply (Entails.of_eq (bar_payload m c k)); iexact Hslot
    iapply (records_reached m K (fwd c k) (.inl ())); iexact HR
  iintro HO
  rw [wp_ret]
  imodintro
  iapply HK
  isplitl [HO]
  · iexists W; iexact HO
  iempintro

/-- A copy to device `d`, the one `k + 1` before `c`. -/
theorem runs_copy_to (A : CellTallies nD τ sig Unit) (t : Fin 4) (k : Fin 7) (rest : List (Fin 7)) (d : Dev nD) (hd : d = bwd c k) (Kt : PUnit → sProp 𝕄) :
    iprop(records m K ∗ owing c (A + owed (k :: rest) (dueCopy c t))
        ∗ (held c (stT t) (lent k) (statOf m c t) ∗ dutyTok ER (sendCell c t k) 0 0 ∗ dutyTok ER (recvCell (bwd c k) t k) 0 0
            ∗ ∃ X, held (bwd c k) (cmT k t) fullShare X)
        ∗ ((owing c (A + owed rest (dueCopy c t)) ∗ cred (tallyAt (sendCell c t k) () N)) -∗ Kt ⟨⟩))
      ⊢ runs c (Prog.lift (.enqueueDma (stT t) (.remote (Dev.tc d) (cmT k t) (.dma (sendSem (t, k)))) (.dma (recvSem (t, k)))
          (View.wordExact_bits rfl) ((View.wordExact_bits rfl).reshape _ _) ⟨⟨rfl, Or.inl rfl⟩, trivial⟩) : TC F PUnit) Kt := by
  subst hd
  simp only [Prog.lift]
  unfold owing
  iintro ⟨#HR, ⟨%W, HO⟩, ⟨Hsrc, HtS, HtR, ⟨%X, Hdst⟩⟩, HK⟩
  unfold held
  iapply (Rounds.wp_send_pointsTo 𝒱₀ ER (sched m) (c : Thread nD τ) none (c' := (bwd c k : Thread nD τ)) (src := stT t) (dst := cmT k t)
      (q := lent k) (fs := (stT t).view.rep (statOf m c t)) (fd := (cmT k t).view.rep X) (r₁ := 0) (r₂ := 0) (O₀ := A + owed (k :: rest) (dueCopy c t)) (d₁ := 0) (d₂ := 0)
      (κ₁ := K (c, .inr (.inl (t, k)))) (κ₂ := K (bwd c k, .inr (.inr (t, k))))
      (by show (0 : Fin 7) ∈ (sched m).duties (sendCell c t k) 0; rw [duties_cell]; exact Finset.mem_singleton_self _)
      (by show (0 : Fin 7) ∈ (sched m).duties (recvCell (bwd c k) t k) 0; rw [duties_cell]; exact Finset.mem_singleton_self _)
      () () N rfl
      ((amount_cell m c (.inr (.inl (t, k))) 0).trans rfl) ((amount_cell m (bwd c k) (.inr (.inr (t, k))) 0).trans rfl)
      (A + owed rest (dueCopy c t)) (by rw [owed_cons, add_assoc])
      (by show _ ⊢ (sched m).payload (sendCell c t k) 0 0
          rw [payload_cell]; exact BI.Entails.refl _)
      (by show _ ⊢ (sched m).payload (recvCell (bwd c k) t k) 0 0
          rw [payload_cell, held_eq, View.read_write_univ, View.read_rep]
          dsimp only [payOf]; unfold recvPay; rw [fwd_bwd])) $$ [HO Hsrc Hdst HtS HtR]
  · isplitr; · iapply (records_inv m K c (.inr (.inl (t, k)))); iexact HR
    isplitr; · iapply (records_inv m K (bwd c k) (.inr (.inr (t, k)))); iexact HR
    isplitl [Hsrc]; · iexact Hsrc
    isplitl [Hdst]; · iexact Hdst
    isplitl [HO]; · iexact HO
    isplitl [HtS]; · iexact HtS
    isplitr; · iapply (records_reached m K c (.inr (.inl (t, k)))); iexact HR
    isplitl [HtR]; · iexact HtR
    iapply (records_reached m K (bwd c k) (.inr (.inr (t, k)))); iexact HR
  iintro ⟨HC, HO⟩
  rw [wp_ret]
  imodintro
  iapply HK
  isplitl [HO]
  · iexists W; iexact HO
  iexact HC

/-- A copy, the sender being device `c`. -/
theorem runs_copy (A : CellTallies nD τ sig Unit) (t : Fin 4) (k : Fin 7) (rest : List (Fin 7)) (Kt : PUnit → sProp 𝕄) :
    iprop(records m K ∗ owing c (A + owed (k :: rest) (dueCopy c t))
        ∗ (held c (stT t) (lent k) (statOf m c t) ∗ dutyTok ER (sendCell c t k) 0 0 ∗ dutyTok ER (recvCell (bwd c k) t k) 0 0
            ∗ ∃ X, held (bwd c k) (cmT k t) fullShare X)
        ∗ ((owing c (A + owed rest (dueCopy c t)) ∗ cred (tallyAt (sendCell c t k) () N)) -∗ Kt ⟨⟩))
      ⊢ runs c (copy stM cmM cc0_scratch2 cc0_scratch3 c t k) Kt :=
  runs_copy_to m K c A t k rest (copyDev c t k) (copyDev_eq c t k) Kt

/-- What a tile's copies are made with: for each peer the two tokens, and the peer's slot. -/
def sendKit (t : Fin 4) (k : Fin 7) : sProp 𝕄 :=
  iprop(dutyTok ER (sendCell c t k) 0 0 ∗ dutyTok ER (recvCell (bwd c k) t k) 0 0 ∗ ∃ X, held (bwd c k) (cmT k t) fullShare X)

/-- The staged block of `x`. -/
abbrev xHere : sProp 𝕄 := ((c : Thread nD τ).loc cc0_stg0_0) ↦{fullShare} xIn m c

/-- A tile of the sums, as a part of their buffer. -/
theorem held_st (t : Fin 4) (q : PosShare TreeShare) (X : S4x1024.Idx → Elt F .f32) :
    (held c (stT t) q X : sProp 𝕄) ⊢ ((c : Thread nD τ).loc cc0_scratch0) ↦[(stT t).view.set]{q} ((stT t).view.rep X) := by
  unfold held; exact BI.Entails.refl _

theorem held_stores (t : Fin 4) (f : Buf (Elt F) ((c : Thread nD τ).loc cc0_scratch0)) :
    (((c : Thread nD τ).loc cc0_scratch0) ↦[(stT t).view.set]{fullShare}
        ((stM.access (rSq t)).write (Elt F) ((stM.access (rSum t)).write (Elt F) f (k0_pay2 (xTile m c t)) Finset.univ) (k0_pay3 (xTile m c t)) Finset.univ) : sProp 𝕄)
      ⊢ held c (stT t) fullShare (statOf m c t) :=
  Entails.of_eq ((held_eq c (stT t) fullShare _).trans (congrArg (held c (stT t) fullShare) (read_stores t f (k0_pay2 (xTile m c t)) (k0_pay3 (xTile m c t)))))

/-- A tile's sums. -/
theorem runs_sums (t : Fin 4) (Kt : PUnit → sProp 𝕄) :
    iprop(xHere m c ∗ (∃ X, held c (stT t) fullShare X) ∗ ((xHere m c ∗ held c (stT t) fullShare (statOf m c t)) -∗ Kt ⟨⟩))
      ⊢ runs c (sums xM stM t) Kt := by
  unfold sums
  simp only [Prog.lift, Prog.bind_op, Prog.bind_ret]
  iintro ⟨Hx, ⟨%X, Hst⟩, HK⟩
  iapply (wp_load 𝒱₀ (c : Thread nD τ) none Set.univ (m := xM) (Finset.subset_univ _)) $$ Hx
  iintro Hx
  ihave Hst := (held_st c t fullShare X) $$ Hst
  iapply (wp_load 𝒱₀ (c : Thread nD τ) none Set.univ (m := stM) (r := (rSum t).toLoadRect) (load_sum t)) $$ Hst
  iintro Hst
  iapply (wp_store 𝒱₀ (c : Thread nD τ) none Set.univ (m := stM) (r := rSum t) (Mk := Finset.univ) (rSum_sub t)) $$ Hst
  iintro Hst
  iapply (wp_load 𝒱₀ (c : Thread nD τ) none Set.univ (m := stM) (r := (rSq t).toLoadRect) (load_sq t)) $$ Hst
  iintro Hst
  iapply (wp_store 𝒱₀ (c : Thread nD τ) none Set.univ (m := stM) (r := rSq t) (Mk := Finset.univ) (rSq_sub t)) $$ Hst
  iintro Hst
  rw [wp_ret]
  imodintro
  iapply HK
  isplitl [Hx]; · iexact Hx
  iapply (held_stores m c t ((stT t).view.rep X))
  iexact Hst

/-- A tile: sums stored and sent. -/
theorem runs_tile (t : Fin 4) (rest : List (Fin 4)) (Kt : PUnit → sProp 𝕄) :
    iprop(records m K ∗ (xHere m c ∗ owing c (owed (t :: rest) (dueCopies c)))
        ∗ ((∃ X, held c (stT t) fullShare X) ∗ bigSepL peers (sendKit c t))
        ∗ (((xHere m c ∗ owing c (owed rest (dueCopies c)))
            ∗ held c (stT t) keep (statOf m c t) ∗ bigSepL peers fun k => cred (tallyAt (sendCell c t k) () N)) -∗ Kt ⟨⟩))
      ⊢ runs c (tile xM stM cmM cc0_scratch2 cc0_scratch3 c t) Kt := by
  unfold tile
  rw [runs, wp_bind, owed_cons]
  iintro ⟨#HR, ⟨Hx, HO⟩, ⟨Hst, Hkit⟩, HK⟩
  iapply (runs_sums m c t _)
  isplitl [Hx]; · iexact Hx
  isplitl [Hst]; · iexact Hst
  iintro ⟨Hx, Hst⟩
  ihave Hst2 := (Entails.of_eq (held_shares c (stT t) (statOf m c t))) $$ Hst
  icases Hst2 with ⟨Hkeep, Hlent⟩
  iapply (runs_forAll c (copy stM cmM cc0_scratch2 cc0_scratch3 c t) (records m K)
    (fun l => owing c (owed rest (dueCopies c) + owed l (dueCopy c t)))
    (fun k => iprop(held c (stT t) (lent k) (statOf m c t) ∗ sendKit c t k))
    (fun k => cred (tallyAt (sendCell c t k) () N))
    (fun k l Kt => by unfold sendKit; exact runs_copy m K c _ t k l Kt) peers Kt)
  isplitr; · iexact HR
  isplitl [HO]; · iexact HO
  isplitl [Hlent Hkit]
  · iapply (bigSepL_zip peers (fun k => held c (stT t) (lent k) (statOf m c t)) (sendKit c t))
    isplitl [Hlent]; · iexact Hlent
    iexact Hkit
  iintro ⟨HO, HC⟩
  iapply HK
  isplitl [Hx HO]
  · isplitl [Hx]; · iexact Hx
    rw [owed_nil, add_zero]
    iexact HO
  isplitl [Hkeep]; · iexact Hkeep
  iexact HC

theorem rest_recv (t : Fin 4) (k : Fin 7) :
    bigSep ((sched (F := F) m).duties (recvCell c t k) 0 \ ∅) (fun d => (sched (F := F) m).payload (recvCell c t k) 0 d)
      = held c (cmT k t) fullShare (statOf m (fwd c k) t) := rest_own m c (.inr (t, k))
theorem rest_send (t : Fin 4) (k : Fin 7) :
    bigSep ((sched (F := F) m).duties (sendCell c t k) 0 \ ∅) (fun d => (sched (F := F) m).payload (sendCell c t k) 0 d)
      = held c (stT t) (lent k) (statOf m c t) := rest_own m c (.inl (t, k))

/-- An arrival. -/
theorem runs_arrive (t : Fin 4) (k : Fin 7) (Kt : PUnit → sProp 𝕄) :
    iprop(records m K ∗ owing c 0
        ∗ (cred (tallyAt (recvCell c t k) () N) ∗ atPos ER (recvCell c t k) 0 ∅ 0)
        ∗ ((owing c 0 ∗ held c (cmT k t) fullShare (statOf m (fwd c k) t) ∗ atPos ER (recvCell c t k) (0 + 1) ∅ 0) -∗ Kt ⟨⟩))
      ⊢ runs c (arrive stM cmM cc0_scratch3 t k) Kt := by
  unfold arrive owing
  simp only [Prog.lift]
  iintro ⟨#HR, ⟨%W, HO⟩, ⟨HC, Hat⟩, HK⟩
  iapply (Rounds.wp_wait_rest_token 𝒱₀ ER (sched m) (c : Thread nD τ) none (κ := K (c, .inr (.inr (t, k))))
      (wpE_waitDma2_eq 𝒱₀ (c : Thread nD τ) none Set.univ) (Set.mem_univ _) () (O := 0) (W := W) (R := 0) (m := 0) (T := ∅)
      (by rw [Nat.zero_add]; exact (expect_own m c (.inr (t, k))).symm)) $$ [HO HC Hat]
  · isplitr; · iapply (records_inv m K c (.inr (.inr (t, k)))); iexact HR
    isplitl [HC]; · iexact HC
    isplitl [HO]; · iexact HO
    isplitr; · rw [MayWait_zero]; iempintro
    iexact Hat
  iintro ⟨HO, Hat, -, Hpay⟩
  rw [wp_ret]
  imodintro
  iapply HK
  isplitl [HO]
  · iexists _; iexact HO
  isplitl [Hpay]
  · iapply (Entails.of_eq (rest_recv m c t k)); iexact Hpay
  iexact Hat

/-- A departure. -/
theorem runs_depart (t : Fin 4) (k : Fin 7) (Kt : PUnit → sProp 𝕄) :
    iprop(records m K ∗ owing c 0
        ∗ (cred (tallyAt (sendCell c t k) () N) ∗ atPos ER (sendCell c t k) 0 ∅ 0)
        ∗ ((owing c 0 ∗ held c (stT t) (lent k) (statOf m c t) ∗ atPos ER (sendCell c t k) (0 + 1) ∅ 0) -∗ Kt ⟨⟩))
      ⊢ runs c (depart stM cmM cc0_scratch2 t k) Kt := by
  unfold depart owing
  simp only [Prog.lift]
  iintro ⟨#HR, ⟨%W, HO⟩, ⟨HC, Hat⟩, HK⟩
  iapply (Rounds.wp_wait_rest_token 𝒱₀ ER (sched m) (c : Thread nD τ) none (κ := K (c, .inr (.inl (t, k))))
      (wpE_waitDma2_eq 𝒱₀ (c : Thread nD τ) none Set.univ) (Set.mem_univ _) () (O := 0) (W := W) (R := 0) (m := 0) (T := ∅)
      (by rw [Nat.zero_add]; exact (expect_own m c (.inl (t, k))).symm)) $$ [HO HC Hat]
  · isplitr; · iapply (records_inv m K c (.inr (.inl (t, k)))); iexact HR
    isplitl [HC]; · iexact HC
    isplitl [HO]; · iexact HO
    isplitr; · rw [MayWait_zero]; iempintro
    iexact Hat
  iintro ⟨HO, Hat, -, Hpay⟩
  rw [wp_ret]
  imodintro
  iapply HK
  isplitl [HO]
  · iexists _; iexact HO
  isplitl [Hpay]
  · iapply (Entails.of_eq (rest_send m c t k)); iexact Hpay
  iexact Hat

end Steps

end Cert.KernelIdeal.Run

end
-- ==== Proof.Body.lean ====
/-
# The kernel's run on one device

The result's tiles, the phases one after the other, and the whole body from what a device starts with to what it ends with.
-/
module

public import proofs.«01_k».proof.Proof.Steps

@[expose] public section

set_option maxRecDepth 16384

noncomputable section

namespace Cert.KernelIdeal.Run

open Cert.KernelIdeal Cert.KernelIdeal.Gen
open Idealize.ShloMosaic
open Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CellIx → ℕ) (c : Dev nD)

/-! ## A tile of the result -/

theorem runs_load_st {α : Type} (t : Fin 4) (q : PosShare TreeShare) (X : Vec F S4x1024 .f32) (h : stM.view.LoadsAt (rStat t).toLoadRect)
    (k : Vec F S4x1024 .f32 → TC F α) (Q : α → sProp 𝕄) :
    (held c (stT t) q X : sProp 𝕄)
      ⊢ iprop((held c (stT t) q X -∗ runs c (k X) Q) -∗ runs c (.op (.load stM (rStat t).toLoadRect h) k) Q) := by
  iintro Hst HK
  unfold held
  iapply (wp_load 𝒱₀ (c : Thread nD τ) none Set.univ (m := stM) (r := (rStat t).toLoadRect) (load_st t)) $$ Hst
  iintro Hst
  rw [readAt_st]
  iapply HK; iexact Hst
theorem runs_load_cm {α : Type} (t : Fin 4) (k : Fin 7) (X : Vec F S4x1024 .f32) (h : cmM.view.LoadsAt (rComm k t).toLoadRect)
    (p : Vec F S1x4x1024 .f32 → TC F α) (Q : α → sProp 𝕄) :
    (held c (cmT k t) fullShare X : sProp 𝕄)
      ⊢ iprop((held c (cmT k t) fullShare X -∗ runs c (p (fun i : S1x4x1024.Idx => X (ix2 (n0 := 4) (n1 := 1024) (i 1) (i 2)))) Q)
          -∗ runs c (.op (.load cmM (rComm k t).toLoadRect h) p) Q) := by
  iintro Hcm HK
  unfold held
  iapply (wp_load 𝒱₀ (c : Thread nD τ) none Set.univ (m := cmM) (r := (rComm k t).toLoadRect) (load_cm k t)) $$ Hcm
  iintro Hcm
  rw [readAt_cm]
  iapply HK; iexact Hcm

/-- The staged block of the result. -/
abbrev outHere (f : Buf (Elt F) ((c : Thread nD τ).loc cc0_stg4_0)) : sProp 𝕄 := ((c : Thread nD τ).loc cc0_stg4_0) ↦{fullShare} f

/-- What has arrived for tile `t` from the `k`-th peer. -/
abbrev landed (t : Fin 4) (k : Fin 7) : sProp 𝕄 := held c (cmT k t) fullShare (statOf m (fwd c k) t)

theorem landed_all (t : Fin 4) : bigSepL peers (landed m c t) = iprop(landed m c t 0 ∗ landed m c t 1 ∗ landed m c t 2 ∗ landed m c t 3
    ∗ landed m c t 4 ∗ landed m c t 5 ∗ landed m c t 6) := rfl

theorem runs_output (t : Fin 4) (f : Buf (Elt F) ((c : Thread nD τ).loc cc0_stg4_0)) (Kt : PUnit → sProp 𝕄) :
    iprop((xHere m c ∗ outHere c f ∗ held c (stT t) keep (statOf m c t) ∗ bigSepL peers (landed m c t))
        ∗ ((xHere m c ∗ outHere c ((outM.access (rX t)).write (Elt F) f (outTile m c t) Finset.univ)
            ∗ held c (stT t) keep (statOf m c t) ∗ bigSepL peers (landed m c t)) -∗ Kt ⟨⟩))
      ⊢ runs c (output xM outM stM cmM (scOf m c) (shOf m c) t) Kt := by
  unfold output
  simp only [Prog.lift, Prog.bind_op, Prog.bind_ret]
  rw [landed_all]
  iintro ⟨⟨Hx, Hout, Hst, H0, H1, H2, H3, H4, H5, H6⟩, HK⟩
  iapply (runs_load_st c t keep (statOf m c t) _ _ Kt) $$ Hst
  iintro Hst
  iapply (runs_load_cm c t 0 _ _ _ Kt) $$ H0
  iintro H0
  iapply (runs_load_cm c t 1 _ _ _ Kt) $$ H1
  iintro H1
  iapply (runs_load_cm c t 2 _ _ _ Kt) $$ H2
  iintro H2
  iapply (runs_load_cm c t 3 _ _ _ Kt) $$ H3
  iintro H3
  iapply (runs_load_cm c t 4 _ _ _ Kt) $$ H4
  iintro H4
  iapply (runs_load_cm c t 5 _ _ _ Kt) $$ H5
  iintro H5
  iapply (runs_load_cm c t 6 _ _ _ Kt) $$ H6
  iintro H6
  iapply (wp_load 𝒱₀ (c : Thread nD τ) none Set.univ (m := xM) (Finset.subset_univ _)) $$ Hx
  iintro Hx
  iapply (wp_load 𝒱₀ (c : Thread nD τ) none Set.univ (m := outM) (Finset.subset_univ _)) $$ Hout
  iintro Hout
  iapply (wp_store 𝒱₀ (c : Thread nD τ) none Set.univ (m := outM) (r := rX t) (Mk := Finset.univ) (Finset.subset_univ _)) $$ Hout
  iintro Hout
  rw [wp_ret]
  imodintro
  iapply HK
  isplitl [Hx]; · iexact Hx
  isplitl [Hout]; · iexact Hout
  isplitl [Hst]; · iexact Hst
  isplitl [H0]; · iexact H0
  isplitl [H1]; · iexact H1
  isplitl [H2]; · iexact H2
  isplitl [H3]; · iexact H3
  isplitl [H4]; · iexact H4
  isplitl [H5]; · iexact H5
  iexact H6

/-- The result's block once all tiles but those of `rest` are written. -/
def outDone (rest : List (Fin 4)) : sProp 𝕄 := iprop(∃ f, ⌜∀ t, t ∉ rest → outRead t f = outTile m c t⌝ ∗ outHere c f)

theorem outDone_step (t : Fin 4) (rest : List (Fin 4)) (f : Buf (Elt F) ((c : Thread nD τ).loc cc0_stg4_0))
    (h : ∀ u, u ∉ t :: rest → outRead u f = outTile m c u) :
    ∀ u, u ∉ rest → outRead u ((outM.access (rX t)).write (Elt F) f (outTile m c t) Finset.univ) = outTile m c u := by
  intro u hu
  by_cases hut : u = t
  · rw [hut]; exact outRead_same t f _
  · rw [outRead_other t u hut]
    exact h u fun hm => (List.mem_cons.mp hm).elim hut hu

/-- The credit for an arrival and the receive cell's place; that for a departure. -/
def arriveKit (t : Fin 4) (k : Fin 7) : sProp 𝕄 := iprop(cred (tallyAt (recvCell c t k) () N) ∗ atPos ER (recvCell c t k) 0 ∅ 0)
def departKit (t : Fin 4) (k : Fin 7) : sProp 𝕄 := iprop(cred (tallyAt (sendCell c t k) () N) ∗ atPos ER (sendCell c t k) 0 ∅ 0)

theorem runs_finish (t : Fin 4) (rest : List (Fin 4)) (Kt : PUnit → sProp 𝕄) :
    iprop(records m K ∗ (xHere m c ∗ outDone m c (t :: rest) ∗ owing c 0)
        ∗ (held c (stT t) keep (statOf m c t) ∗ bigSepL peers (arriveKit c t))
        ∗ (((xHere m c ∗ outDone m c rest ∗ owing c 0)
            ∗ held c (stT t) keep (statOf m c t)
            ∗ bigSepL peers (landed m c t) ∗ bigSepL peers fun k => atPos ER (recvCell c t k) (0 + 1) ∅ 0) -∗ Kt ⟨⟩))
      ⊢ runs c (finish xM outM stM cmM cc0_scratch3 (scOf m c) (shOf m c) t) Kt := by
  unfold finish outDone
  rw [runs, wp_bind]
  iintro ⟨#HR, ⟨Hx, ⟨%f, %hf, Hout⟩, HO⟩, ⟨Hst, Hkit⟩, HK⟩
  iapply (runs_forAll c (arrive stM cmM cc0_scratch3 t) (records m K) (fun _ => owing c 0) (arriveKit c t)
    (fun k => iprop(landed m c t k ∗ atPos ER (recvCell c t k) (0 + 1) ∅ 0))
    (fun k l Kt => by unfold arriveKit; exact runs_arrive m K c t k Kt) peers _)
  isplitr; · iexact HR
  isplitl [HO]; · iexact HO
  isplitl [Hkit]; · iexact Hkit
  iintro ⟨HO, HQ⟩
  ihave HQ := (Entails.of_eq (bigSepL_both (landed m c t) (fun k => atPos ER (recvCell c t k) (0 + 1) ∅ 0) peers)) $$ HQ
  icases HQ with ⟨Hl, Hat⟩
  iapply (runs_output m c t f Kt)
  isplitl [Hx Hout Hst Hl]
  · isplitl [Hx]; · iexact Hx
    isplitl [Hout]; · iexact Hout
    isplitl [Hst]; · iexact Hst
    iexact Hl
  iintro ⟨Hx, Hout, Hst, Hl⟩
  iapply HK
  isplitl [Hx Hout HO]
  · isplitl [Hx]; · iexact Hx
    isplitl [Hout]
    · iexists _
      isplitr
      · ipureintro; exact outDone_step m c t rest f hf
      iexact Hout
    iexact HO
  isplitl [Hst]; · iexact Hst
  isplitl [Hl]; · iexact Hl
  iexact Hat

/-- The departures of a tile. -/
theorem runs_departs (t : Fin 4) (rest : List (Fin 4)) (Kt : PUnit → sProp 𝕄) :
    iprop(records m K ∗ owing c 0 ∗ bigSepL peers (departKit c t)
        ∗ ((owing c 0 ∗ bigSepL peers (fun k => held c (stT t) (lent k) (statOf m c t))
            ∗ bigSepL peers fun k => atPos ER (sendCell c t k) (0 + 1) ∅ 0) -∗ Kt ⟨⟩))
      ⊢ runs c (forAll peers (depart stM cmM cc0_scratch2 t)) Kt := by
  iintro ⟨#HR, HO, Hkit, HK⟩
  iapply (runs_forAll c (depart stM cmM cc0_scratch2 t) (records m K) (fun _ => owing c 0) (departKit c t)
    (fun k => iprop(held c (stT t) (lent k) (statOf m c t) ∗ atPos ER (sendCell c t k) (0 + 1) ∅ 0))
    (fun k l Kt => by unfold departKit; exact runs_depart m K c t k Kt) peers _)
  isplitr; · iexact HR
  isplitl [HO]; · iexact HO
  isplitl [Hkit]; · iexact Hkit
  iintro ⟨HO, HQ⟩
  ihave HQ := (Entails.of_eq (bigSepL_both (fun k => held c (stT t) (lent k) (statOf m c t)) (fun k => atPos ER (sendCell c t k) (0 + 1) ∅ 0) peers)) $$ HQ
  icases HQ with ⟨Hl, Hat⟩
  iapply HK
  isplitl [HO]; · iexact HO
  isplitl [Hl]; · iexact Hl
  iexact Hat

/-! ## Lists and cells -/

theorem bigSepL_emp {ι : Type} : ∀ l : List ι, bigSepL l (fun _ => (iprop(emp) : sProp 𝕄)) = iprop(emp)
  | [] => rfl
  | _ :: l => by rw [bigSepL_cons', bigSepL_emp l]; exact equiv_iff.mp BI.sep_emp
theorem bigSepL_swap {ι κ : Type} (Φ : ι → κ → sProp 𝕄) (l' : List κ) : ∀ l : List ι,
    bigSepL l (fun i => bigSepL l' (Φ i)) = bigSepL l' (fun j => bigSepL l (fun i => Φ i j))
  | [] => (bigSepL_emp l').symm
  | i :: l => by
    rw [bigSepL_cons', bigSepL_swap Φ l' l, ← bigSepL_both]
    exact congrArg (bigSepL l') (funext fun j => (bigSepL_cons' i l fun i => Φ i j).symm)

/-- Something at every cell of a device: at the barrier cell, at the send cells, at the receive cells. -/
theorem cells_split (Φ : CellIx → sProp 𝕄) : bigSep Finset.univ Φ
    = iprop(Φ (.inl ()) ∗ (bigSepL tiles fun t => bigSepL peers fun k => Φ (.inr (.inl (t, k))))
        ∗ bigSepL tiles fun t => bigSepL peers fun k => Φ (.inr (.inr (t, k)))) := by
  rw [bigSep_univ_sum, bigSep_univ_sum, bigSep_univ_prod, bigSep_univ_prod, bigSep_univ_eq_bigSepL [()] (by decide) (by decide), bigSepL_singleton]
  simp only [bigSep_univ_eq_bigSepL tiles (by decide) (by decide), bigSep_univ_eq_bigSepL peers (by decide) (by decide)]
  rfl

/-- All cells closed: their counters are back at zero. -/
theorem cells_close :
    iprop(records m K ∗ bigSep Finset.univ fun i : CellIx => atPos ER (cellOn c i) (0 + 1) ∅ 0)
      ⊢ iprop(|={Set.univ}=> bigSep Finset.univ fun i : CellIx => (semVal (cellOn c i) 0 : sProp 𝕄)) := by
  have h (i : CellIx) : iprop(records m K ∗ atPos ER (cellOn c i) (0 + 1) ∅ 0) ⊢ iprop(|={Set.univ}=> (semVal (cellOn c i) 0 : sProp 𝕄)) := by
    iintro ⟨#HR, Hat⟩
    iapply (Rounds.cell_close ER (sched m) (Set.mem_univ (K (c, i))) (fun h => h) (R := 0 + 1) (duties_later m (cellOn c i)))
    isplitr; · iapply (records_inv m K c i); iexact HR
    iexact Hat
  exact (bigSep_with_persistent fun i _ => h i).trans (bigSep_fupd _ _)

/-! ## The body -/

/-- What a device is dealt before the body runs: its places, the tokens of the duties it pays, and its credit. -/
def places : sProp 𝕄 := bigSep Finset.univ fun i : CellIx => atPos ER (cellOn c i) 0 ∅ 0
def payToks : sProp 𝕄 :=
  iprop((bigSepL peers fun k => dutyTok ER (barCell (fwd c k)) 0 k)
    ∗ bigSepL tiles fun t => bigSepL peers fun k => iprop(dutyTok ER (sendCell c t k) 0 0 ∗ dutyTok ER (recvCell (bwd c k) t k) 0 0))
def credits : sProp 𝕄 :=
  iprop(cred (tallyAt (barCell c) () 7) ∗ bigSepL tiles fun t => bigSepL peers fun k => cred (tallyAt (recvCell c t k) () N))

/-- The other staged blocks. -/
abbrev teHere : sProp 𝕄 := ((c : Thread nD τ).loc cc0_stg1_0) ↦{fullShare} teIn m c
abbrev wsHere : sProp 𝕄 := ((c : Thread nD τ).loc cc0_stg2_0) ↦{fullShare} wsIn m c
abbrev whHere : sProp 𝕄 := ((c : Thread nD τ).loc cc0_stg3_0) ↦{fullShare} whIn m c

/-- For each tile and each peer, two things together. -/
theorem zip_zip (Φ Ψ : Fin 4 → Fin 7 → sProp 𝕄) :
    iprop((bigSepL tiles fun t => bigSepL peers (Φ t)) ∗ bigSepL tiles fun t => bigSepL peers (Ψ t))
      ⊢ bigSepL tiles fun t => bigSepL peers fun k => iprop(Φ t k ∗ Ψ t k) :=
  (bigSepL_zip tiles (fun t => bigSepL peers (Φ t)) (fun t => bigSepL peers (Ψ t))).trans (bigSepL_mono fun t _ => bigSepL_zip peers (Φ t) (Ψ t))
theorem kits :
    iprop((bigSepL tiles fun t => bigSepL peers fun k => iprop(dutyTok ER (sendCell c t k) 0 0 ∗ dutyTok ER (recvCell (bwd c k) t k) 0 0))
        ∗ bigSepL tiles fun t => bigSepL peers fun k => iprop(∃ X, held (bwd c k) (cmT k t) fullShare X))
      ⊢ (bigSepL tiles fun t => bigSepL peers (sendKit c t) : sProp 𝕄) := by
  refine (zip_zip (fun t k => iprop(dutyTok ER (sendCell c t k) 0 0 ∗ dutyTok ER (recvCell (bwd c k) t k) 0 0))
    (fun t k => iprop(∃ X, held (bwd c k) (cmT k t) fullShare X))).trans (bigSepL_mono fun t _ => bigSepL_mono fun k _ => ?_)
  unfold sendKit
  iintro ⟨⟨H1, H2⟩, H3⟩
  isplitl [H1]; · iexact H1
  isplitl [H2]; · iexact H2
  iexact H3

/-- The opening: all signals sent, each peer's slots received. -/
theorem runs_signals (Kt : PUnit → sProp 𝕄) :
    iprop(records m K ∗ owing c (O₀ c) ∗ (bigSepL peers fun k => dutyTok ER (barCell (fwd c k)) 0 k) ∗ cmAny c
        ∗ (owing c (owed tiles (dueCopies c)) -∗ Kt ⟨⟩))
      ⊢ runs c (forAll peers (signal (F := F) c)) Kt := by
  iintro ⟨#HR, HO, Htok, Hcm, HK⟩
  iapply (runs_forAll c (signal (F := F) c) (records m K) (fun l => owing c (owed tiles (dueCopies c) + owed l (dueSignal c)))
    (fun k => iprop(dutyTok ER (barCell (fwd c k)) 0 k ∗ bigSepL tiles fun t => iprop(∃ X, held c (cmT k t) fullShare X))) (fun _ => iprop(emp))
    (fun k l Kt => runs_signal m K c _ k l Kt) peers Kt)
  isplitr; · iexact HR
  isplitl [HO]; · unfold O₀; iexact HO
  isplitl [Htok Hcm]
  · iapply (bigSepL_zip peers (fun k => dutyTok ER (barCell (fwd c k)) 0 k) (fun k => bigSepL tiles fun t => iprop(∃ X, held c (cmT k t) fullShare X)))
    isplitl [Htok]; · iexact Htok
    iapply (cm_split c); iexact Hcm
  iintro ⟨HO, -⟩
  iapply HK
  rw [owed_nil, add_zero]
  iexact HO

theorem runs_barrier (Kt : PUnit → sProp 𝕄) :
    iprop(records m K ∗ levAts L lv ∗ owing c (owed tiles (dueCopies c)) ∗ cred (tallyAt (barCell c) () 7) ∗ atPos ER (barCell c) 0 ∅ 0
        ∗ ((owing c (owed tiles (dueCopies c)) ∗ (bigSepL tiles fun t => bigSepL peers fun k => iprop(∃ X, held (bwd c k) (cmT k t) fullShare X))
            ∗ atPos ER (barCell c) (0 + 1) ∅ 0) -∗ Kt ⟨⟩))
      ⊢ runs c (semWaitWord barSem 7#32 : TC F PUnit) Kt := by
  unfold semWaitWord owing
  iintro ⟨#HR, #Hlev, ⟨%W, HO⟩, HC, Hat, HK⟩
  iapply (Rounds.wp_wait_rest_token 𝒱₀ ER (sched m) (c : Thread nD τ) none (κ := K (c, .inl ()))
      (wpE_semWait_eq 𝒱₀ (c : Thread nD τ) none Set.univ) (Set.mem_univ _) () (O := owed tiles (dueCopies c)) (W := W) (R := 0) (m := 0) (T := ∅)
      (by rw [Nat.zero_add]; exact (expect_bar m c).symm)) $$ [HO HC Hat]
  · isplitr; · iapply (records_inv m K c (.inl ())); iexact HR
    isplitl [HC]; · iexact HC
    isplitl [HO]; · iexact HO
    isplitr; · iapply (mayWait_bar c); iexact Hlev
    iexact Hat
  iintro ⟨HO, Hat, -, Hpay⟩
  rw [wp_ret]
  imodintro
  iapply HK
  isplitl [HO]
  · iexists _; iexact HO
  isplitl [Hpay]
  · iapply (Entails.of_eq (bigSepL_swap (fun k t => iprop(∃ X, held (bwd c k) (cmT k t) fullShare X)) tiles peers))
    iapply (Entails.of_eq (rest_bar m c)); iexact Hpay
  iexact Hat

/-- All tiles' sums, stored and sent. -/
theorem runs_tiles (Kt : PUnit → sProp 𝕄) :
    iprop(records m K ∗ xHere m c ∗ owing c (owed tiles (dueCopies c)) ∗ stAny c ∗ (bigSepL tiles fun t => bigSepL peers (sendKit c t))
        ∗ ((xHere m c ∗ owing c 0 ∗ (bigSepL tiles fun t => held c (stT t) keep (statOf m c t))
            ∗ bigSepL tiles fun t => bigSepL peers fun k => cred (tallyAt (sendCell c t k) () N)) -∗ Kt ⟨⟩))
      ⊢ runs c (forAll tiles (tile xM stM cmM cc0_scratch2 cc0_scratch3 c)) Kt := by
  iintro ⟨#HR, Hx, HO, Hst, Hkit, HK⟩
  iapply (runs_forAll c (tile xM stM cmM cc0_scratch2 cc0_scratch3 c) (records m K) (fun l => iprop(xHere m c ∗ owing c (owed l (dueCopies c))))
    (fun t => iprop((∃ X, held c (stT t) fullShare X) ∗ bigSepL peers (sendKit c t)))
    (fun t => iprop(held c (stT t) keep (statOf m c t) ∗ bigSepL peers fun k => cred (tallyAt (sendCell c t k) () N)))
    (fun t l Kt => runs_tile m K c t l Kt) tiles Kt)
  isplitr; · iexact HR
  isplitl [Hx HO]
  · isplitl [Hx]; · iexact Hx
    iexact HO
  isplitl [Hst Hkit]
  · iapply (bigSepL_zip tiles (fun t => iprop(∃ X, held c (stT t) fullShare X)) (fun t => bigSepL peers (sendKit c t)))
    isplitl [Hst]; · iapply (st_split c); iexact Hst
    iexact Hkit
  iintro ⟨⟨Hx, HO⟩, HQ⟩
  ihave HQ := (Entails.of_eq (bigSepL_both (fun t => held c (stT t) keep (statOf m c t)) (fun t => bigSepL peers fun k => cred (tallyAt (sendCell c t k) () N)) tiles)) $$ HQ
  icases HQ with ⟨Hst, HC⟩
  iapply HK
  isplitl [Hx]; · iexact Hx
  isplitl [HO]; · rw [owed_nil]; iexact HO
  isplitl [Hst]; · iexact Hst
  iexact HC

/-- The tiles' kept shares and the shares that came back are the buffer. -/
theorem st_back :
    iprop((bigSepL tiles fun t => held c (stT t) keep (statOf m c t)) ∗ bigSepL tiles fun t => bigSepL peers fun k => held c (stT t) (lent k) (statOf m c t))
      ⊢ stAny c := by
  refine (bigSepL_zip tiles (fun t => held c (stT t) keep (statOf m c t)) (fun t => bigSepL peers fun k => held c (stT t) (lent k) (statOf m c t))).trans ?_
  refine BI.Entails.trans (bigSepL_mono fun t _ => ?_) (st_join c)
  refine (Entails.of_eq (held_shares c (stT t) (statOf m c t)).symm).trans ?_
  iintro H
  iexists _; iexact H
theorem cm_back : (bigSepL tiles fun t => bigSepL peers (landed m c t)) ⊢ cmAny c := by
  rw [bigSepL_swap (landed m c) peers tiles]
  refine BI.Entails.trans (bigSepL_mono fun k _ => bigSepL_mono fun t _ => ?_) (cm_join c)
  iintro H
  iexists _; iexact H

/-- The last two phases, and the cells closed. -/
theorem runs_closing (Kt : PUnit → sProp 𝕄) :
    iprop(records m K ∗ xHere m c ∗ (∃ f, outHere c f) ∗ owing c 0 ∗ (bigSepL tiles fun t => held c (stT t) keep (statOf m c t))
        ∗ (bigSepL tiles fun t => bigSepL peers (arriveKit c t)) ∗ (bigSepL tiles fun t => bigSepL peers (departKit c t))
        ∗ atPos ER (barCell c) (0 + 1) ∅ 0
        ∗ ((xHere m c ∗ outHere c (outAt m c) ∗ owing c 0 ∗ stAny c ∗ cmAny c ∗ bigSep Finset.univ fun i : CellIx => semVal (cellOn c i) 0) -∗ Kt ⟨⟩))
      ⊢ runs c (closing xM outM stM cmM cc0_scratch2 cc0_scratch3 (scOf m c) (shOf m c)) Kt := by
  unfold closing
  iintro ⟨#HR, Hx, ⟨%f, Hout⟩, HO, Hst, Harr, Hdep, Hbar, HK⟩
  iapply (wp_fupd frame (wpE (defs₀ (F := F)) 𝒱₀ (c : Thread nD τ) none) Set.univ _ Kt)
  rw [wp_bind]
  iapply (runs_forAll c (finish xM outM stM cmM cc0_scratch3 (scOf m c) (shOf m c)) (records m K) (fun l => iprop(xHere m c ∗ outDone m c l ∗ owing c 0))
    (fun t => iprop(held c (stT t) keep (statOf m c t) ∗ bigSepL peers (arriveKit c t)))
    (fun t => iprop(held c (stT t) keep (statOf m c t) ∗ bigSepL peers (landed m c t) ∗ bigSepL peers fun k => atPos ER (recvCell c t k) (0 + 1) ∅ 0))
    (fun t l Kt => runs_finish m K c t l Kt) tiles _)
  isplitr; · iexact HR
  isplitl [Hx Hout HO]
  · isplitl [Hx]; · iexact Hx
    isplitl [Hout]
    · unfold outDone
      iexists f
      isplitr
      · ipureintro; exact fun t ht => absurd (by revert t; decide) ht
      iexact Hout
    iexact HO
  isplitl [Hst Harr]
  · iapply (bigSepL_zip tiles (fun t => held c (stT t) keep (statOf m c t)) (fun t => bigSepL peers (arriveKit c t)))
    isplitl [Hst]; · iexact Hst
    iexact Harr
  iintro ⟨⟨Hx, Hout, HO⟩, HQ⟩
  ihave HQ := (Entails.of_eq (bigSepL_both (fun t => held c (stT t) keep (statOf m c t))
    (fun t => iprop(bigSepL peers (landed m c t) ∗ bigSepL peers fun k => atPos ER (recvCell c t k) (0 + 1) ∅ 0)) tiles)) $$ HQ
  icases HQ with ⟨Hst, HQ⟩
  ihave HQ := (Entails.of_eq (bigSepL_both (fun t => bigSepL peers (landed m c t)) (fun t => bigSepL peers fun k => atPos ER (recvCell c t k) (0 + 1) ∅ 0) tiles)) $$ HQ
  icases HQ with ⟨Hcm, Hrecv⟩
  iapply (runs_forAll c (fun t => forAll peers (depart stM cmM cc0_scratch2 t)) (records m K) (fun _ => owing c 0)
    (fun t => bigSepL peers (departKit c t))
    (fun t => iprop((bigSepL peers fun k => held c (stT t) (lent k) (statOf m c t)) ∗ bigSepL peers fun k => atPos ER (sendCell c t k) (0 + 1) ∅ 0))
    (fun t l Kt => runs_departs m K c t l Kt) tiles _)
  isplitr; · iexact HR
  isplitl [HO]; · iexact HO
  isplitl [Hdep]; · iexact Hdep
  iintro ⟨HO, HQ⟩
  ihave HQ := (Entails.of_eq (bigSepL_both (fun t => bigSepL peers fun k => held c (stT t) (lent k) (statOf m c t))
    (fun t => bigSepL peers fun k => atPos ER (sendCell c t k) (0 + 1) ∅ 0) tiles)) $$ HQ
  icases HQ with ⟨Hlent, Hsend⟩
  unfold outDone
  icases Hout with ⟨%g, %hg, Hout⟩
  rw [out_whole m c g fun t => hg t List.not_mem_nil]
  imod (cells_close m K c) $$ [Hbar Hsend Hrecv] with Hz
  · isplitr; · iexact HR
    iapply (Entails.of_eq (cells_split (fun i => atPos ER (cellOn c i) (0 + 1) ∅ 0)).symm)
    isplitl [Hbar]; · iexact Hbar
    isplitl [Hsend]; · iexact Hsend
    iexact Hrecv
  imodintro
  iapply HK
  isplitl [Hx]; · iexact Hx
  isplitl [Hout]; · iexact Hout
  isplitl [HO]; · iexact HO
  isplitl [Hst Hlent]
  · iapply (st_back m c)
    isplitl [Hst]; · iexact Hst
    iexact Hlent
  isplitl [Hcm]; · iapply (cm_back m c); iexact Hcm
  iexact Hz

/-- What the body ends with. -/
def bodyEnd : sProp 𝕄 :=
  iprop((xHere m c ∗ teHere m c ∗ wsHere m c ∗ whHere m c ∗ outHere c (outAt m c)) ∗ owing c 0
    ∗ stAny c ∗ cmAny c ∗ bigSep Finset.univ fun i : CellIx => semVal (cellOn c i) 0)

theorem runs_body (Kt : PUnit → sProp 𝕄) :
    iprop(records m K ∗ levAts L lv ∗ (xHere m c ∗ teHere m c ∗ wsHere m c ∗ whHere m c ∗ ∃ f, outHere c f) ∗ owing c (O₀ c)
        ∗ stAny c ∗ cmAny c ∗ places c ∗ payToks c ∗ credits c ∗ (bodyEnd m c -∗ Kt ⟨⟩))
      ⊢ runs c (body xM teM wsM whM outM stM cmM cc0_scratch2 cc0_scratch3) Kt := by
  unfold body places payToks credits bodyEnd
  simp only [Prog.lift, Prog.bind_op, Prog.bind_ret, wp_deviceId]
  rw [cells_split, wp_bind]
  iintro ⟨#HR, #Hlev, ⟨Hx, Hte, Hws, Hwh, Hout⟩, HO, Hst, Hcm, ⟨Hbar, Hsend, Hrecv⟩, ⟨Hsig, Htok⟩, ⟨HCb, HCr⟩, HK⟩
  iapply (runs_signals m K c _)
  isplitr; · iexact HR
  isplitl [HO]; · iexact HO
  isplitl [Hsig]; · iexact Hsig
  isplitl [Hcm]; · iexact Hcm
  iintro HO
  rw [wp_bind]
  iapply (runs_barrier m K c _)
  isplitr; · iexact HR
  isplitr; · iexact Hlev
  isplitl [HO]; · iexact HO
  isplitl [HCb]; · iexact HCb
  isplitl [Hbar]; · iexact Hbar
  iintro ⟨HO, Hslots, Hbar⟩
  rw [wp_bind]
  iapply (runs_tiles m K c _)
  isplitr; · iexact HR
  isplitl [Hx]; · iexact Hx
  isplitl [HO]; · iexact HO
  isplitl [Hst]; · iexact Hst
  isplitl [Htok Hslots]
  · iapply (kits c)
    isplitl [Htok]; · iexact Htok
    iexact Hslots
  iintro ⟨Hx, HO, Hst, HCs⟩
  iapply (wp_load 𝒱₀ (c : Thread nD τ) none Set.univ (m := teM) (Finset.subset_univ _)) $$ Hte
  iintro Hte
  iapply (wp_load 𝒱₀ (c : Thread nD τ) none Set.univ (m := wsM) (Finset.subset_univ _)) $$ Hws
  iintro Hws
  iapply (wp_load 𝒱₀ (c : Thread nD τ) none Set.univ (m := teM) (Finset.subset_univ _)) $$ Hte
  iintro Hte
  iapply (wp_load 𝒱₀ (c : Thread nD τ) none Set.univ (m := whM) (Finset.subset_univ _)) $$ Hwh
  iintro Hwh
  iapply (runs_closing m K c Kt)
  isplitr; · iexact HR
  isplitl [Hx]; · iexact Hx
  isplitl [Hout]; · iexact Hout
  isplitl [HO]; · iexact HO
  isplitl [Hst]; · iexact Hst
  isplitl [HCr Hrecv]
  · iapply (zip_zip (fun t k => cred (tallyAt (recvCell c t k) () N)) (fun t k => atPos ER (recvCell c t k) 0 ∅ 0))
    isplitl [HCr]; · iexact HCr
    iexact Hrecv
  isplitl [HCs Hsend]
  · iapply (zip_zip (fun t k => cred (tallyAt (sendCell c t k) () N)) (fun t k => atPos ER (sendCell c t k) 0 ∅ 0))
    isplitl [HCs]; · iexact HCs
    iexact Hsend
  isplitl [Hbar]; · iexact Hbar
  iintro ⟨Hx, Hout, HO, Hst, Hcm, Hz⟩
  iapply HK
  isplitl [Hx Hte Hws Hwh Hout]
  · isplitl [Hx]; · iexact Hx
    isplitl [Hte]; · iexact Hte
    isplitl [Hws]; · iexact Hws
    isplitl [Hwh]; · iexact Hwh
    iexact Hout
  isplitl [HO]; · iexact HO
  isplitl [Hst]; · iexact Hst
  isplitl [Hcm]; · iexact Hcm
  iexact Hz

end Cert.KernelIdeal.Run

end
-- ==== Proof.Deal.lean ====
/-
# What the launch deals the devices

The protocol's cells and duty tokens are minted once for the whole mesh; each device's own cells come under invariants, each token goes
to the device that pays the duty, and the launch's credit splits into what a device waits for at its barrier cell and at its receive
cells.
-/
module

public import proofs.«01_k».proof.Proof.Body

@[expose] public section

set_option maxRecDepth 16384

noncomputable section

namespace Cert.KernelIdeal.Run

open Cert.KernelIdeal Cert.KernelIdeal.Gen
open Idealize.ShloMosaic
open Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Cells and tokens -/

/-- All cells of all devices. -/
def allCells : Finset (GSem nD τ sig) := Finset.univ.map ⟨fun x : Dev nD × CellIx => cellOn x.1 x.2, cellOn_injective⟩

/-- A device's duties: seven on its barrier cell, one on each of its own cells. -/
abbrev DutyIx : Type := Fin 7 ⊕ Own
abbrev dutyCell : DutyIx → CellIx
  | .inl _ => .inl ()
  | .inr o => .inr o
abbrev dutyNo : DutyIx → Fin 7
  | .inl k => k
  | .inr _ => 0
abbrev tokOf (x : Dev nD × DutyIx) : GSem nD τ sig × ℕ × Fin 7 := (cellOn x.1 (dutyCell x.2), 0, dutyNo x.2)

theorem tokOf_injective : Function.Injective tokOf := by
  rintro ⟨c, x⟩ ⟨d, y⟩ h
  have h1 := cellOn_injective (a₁ := (c, dutyCell x)) (a₂ := (d, dutyCell y)) (congrArg Prod.fst h)
  have h2 : dutyNo x = dutyNo y := congrArg (fun z : GSem nD τ sig × ℕ × Fin 7 => z.2.2) h
  have h3 : c = d := congrArg Prod.fst h1
  have h4 : dutyCell x = dutyCell y := congrArg Prod.snd h1
  subst h3
  rcases x with k | o <;> rcases y with l | p
  · exact congrArg (fun z => (c, Sum.inl z)) h2
  · cases h4
  · cases h4
  · exact congrArg (fun z => (c, Sum.inr z)) (Sum.inr.inj h4)

def allToks : Finset (GSem nD τ sig × ℕ × Fin 7) := Finset.univ.map ⟨tokOf, tokOf_injective⟩

/-- The token of duty `x` of device `c`. -/
abbrev tok (c : Dev nD) (x : DutyIx) : sProp 𝕄 := dutyTok ER (cellOn c (dutyCell x)) 0 (dutyNo x)

/-- What a device is dealt of its own cells. -/
def dealt (c : Dev nD) : sProp 𝕄 :=
  iprop((bigSep Finset.univ fun i : CellIx => roundState ER (sched m) (cellOn c i) 0)
    ∗ (bigSep Finset.univ fun i : CellIx => atPos ER (cellOn c i) 0 ∅ 0) ∗ (bigSep Finset.univ fun i : CellIx => reached ER (cellOn c i) 0)
    ∗ bigSep Finset.univ (tok (F := F) c))

theorem fund_cells : BI.own (ER (initOf allCells allToks)) ⊢ (|==> bigSep Finset.univ (dealt m) : sProp 𝕄) := by
  have hC (Φ : GSem nD τ sig → sProp 𝕄) : bigSep allCells Φ = bigSep Finset.univ fun c : Dev nD => bigSep Finset.univ fun i : CellIx => Φ (cellOn c i) := by
    unfold allCells; rw [bigSep_map, bigSep_univ_prod]; rfl
  have hT : bigSep allToks (fun x => (dutyTok ER x.1 x.2.1 x.2.2 : sProp 𝕄)) = bigSep Finset.univ fun c : Dev nD => bigSep Finset.univ (tok (F := F) c) := by
    unfold allToks; rw [bigSep_map, bigSep_univ_prod]; rfl
  iintro HX
  imod (Rounds.fund ER (sched m) allCells allToks) $$ HX with ⟨Hst, Hr, Hat, Htok⟩
  imodintro
  ihave Hst := (Entails.of_eq (hC fun g => roundState ER (sched m) g 0)) $$ Hst
  ihave Hat := (Entails.of_eq (hC fun g => atPos ER g 0 ∅ 0)) $$ Hat
  ihave Hr := (Entails.of_eq (hC fun g => reached ER g 0)) $$ Hr
  ihave Htok := (Entails.of_eq hT) $$ Htok
  unfold dealt
  simp only [bigSep_sep']
  isplitl [Hst]; · iexact Hst
  isplitl [Hat]; · iexact Hat
  isplitl [Hr]; · iexact Hr
  iexact Htok

/-! ## Tokens to those who pay -/

/-- The device that pays duty `x` of device `c`, read backwards: whose duty `x` device `c` pays. -/
def owner : DutyIx → Dev nD ≃ Dev nD
  | .inl k => turn k
  | .inr (.inl _) => Equiv.refl _
  | .inr (.inr p) => (turn p.2).symm

/-- Every token moved to the device that pays it. -/
def move : Dev nD × DutyIx ≃ Dev nD × DutyIx :=
  (Equiv.prodComm _ _).trans ((Equiv.prodShear (Equiv.refl DutyIx) owner).trans (Equiv.prodComm _ _))

theorem toks_move : (bigSep Finset.univ fun c : Dev nD => bigSep Finset.univ (tok (F := F) c))
    = bigSep Finset.univ fun c : Dev nD => bigSep Finset.univ fun x : DutyIx => tok (F := F) (owner x c) x := by
  rw [← bigSep_univ_prod (fun y : Dev nD × DutyIx => tok (F := F) y.1 y.2), bigSep_univ_equiv move, bigSep_univ_prod]
  rfl

/-- Something at every duty: at the barrier cell's, at the send cells', at the receive cells'. -/
theorem duties_split (Φ : DutyIx → sProp 𝕄) : bigSep Finset.univ Φ
    = iprop(bigSepL peers (fun k => Φ (.inl k)) ∗ (bigSepL tiles fun t => bigSepL peers fun k => Φ (.inr (.inl (t, k))))
        ∗ bigSepL tiles fun t => bigSepL peers fun k => Φ (.inr (.inr (t, k)))) := by
  rw [bigSep_univ_sum, bigSep_univ_sum, bigSep_univ_prod, bigSep_univ_prod]
  simp only [bigSep_univ_eq_bigSepL tiles (by decide) (by decide), bigSep_univ_eq_bigSepL peers (by decide) (by decide)]
  rfl

theorem toks_pay (c : Dev nD) : (bigSep Finset.univ fun x : DutyIx => tok (F := F) (owner x c) x) ⊢ payToks c := by
  rw [duties_split]
  unfold payToks
  iintro ⟨H1, H2, H3⟩
  isplitl [H1]; · iexact H1
  iapply (zip_zip (fun t k => dutyTok ER (sendCell c t k) 0 0) (fun t k => dutyTok ER (recvCell (bwd c k) t k) 0 0))
  isplitl [H2]; · iexact H2
  iexact H3

/-! ## Cells under invariants -/

theorem unscoped_eq (c : Dev nD) : (unscopedSems0 c : sProp 𝕄) = semVal (barCell c) 0 := by
  unfold unscopedSems0; rw [bigSep_eq_bigSepL_of_eq [SemLoc.reg barSem] (by decide) (by decide)]; rfl

/-- A device's semaphores are its cells. -/
theorem sems_eq (c : Dev nD) :
    (iprop(Pipeline.ownSems0 (Ix := Unit) (Name := ℕ) (U := UU) (Lvl := ℕ) (Val := Elt F) (τ := τ) osem c ∗ unscopedSems0 c) : sProp 𝕄)
      = bigSep Finset.univ fun i : CellIx => semVal (cellOn c i) 0 := by
  rw [unscoped_eq, bigSep_univ_sum, bigSep_univ_eq_bigSepL [()] (by decide) (by decide), bigSepL_singleton]
  unfold Pipeline.ownSems0
  exact equiv_iff.mp ⟨BI.sep_comm, BI.sep_comm⟩

theorem alloc_cells (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun i : CellIx => iprop(∃ κ : ℕ, cellInv ER (sched m) κ (cellOn c i)))
          ∗ (bigSep Finset.univ fun i : CellIx => reached ER (cellOn c i) 0) ∗ places c ∗ bigSep Finset.univ (tok (F := F) c)) := by
  have h : iprop((bigSep Finset.univ fun i : CellIx => semVal (cellOn c i) 0) ∗ bigSep Finset.univ fun i : CellIx => roundState ER (sched m) (cellOn c i) 0)
      ⊢ (|={Set.univ}=> bigSep Finset.univ fun i : CellIx => iprop(∃ κ : ℕ, cellInv ER (sched m) κ (cellOn c i)) : sProp 𝕄) := by
    rw [← bigSep_sep']
    exact (bigSep_mono fun i _ => (Rounds.body_intro ER (sched m) (cellOn c i)).trans inv_alloc).trans (bigSep_fupd _ _)
  unfold dealt places
  iintro ⟨Hown, Hun, Hst, Hat, Hr, Htok⟩
  imod h $$ [Hown Hun Hst] with Hinv
  · isplitr [Hst]
    · iapply (Entails.of_eq (sems_eq (F := F) c))
      isplitl [Hown]; · iexact Hown
      iexact Hun
    iexact Hst
  imodintro
  isplitl [Hinv]; · iexact Hinv
  isplitl [Hr]; · iexact Hr
  isplitl [Hat]; · iexact Hat
  iexact Htok

/-- What a device starts with, but for its credit. -/
def ready (c : Dev nD) : sProp 𝕄 := iprop((∃ K, records m K) ∗ places c ∗ payToks c)

theorem share_out :
    (bigSep Finset.univ fun c : Dev nD => iprop((bigSep Finset.univ fun i : CellIx => iprop(∃ κ : ℕ, cellInv ER (sched m) κ (cellOn c i)))
        ∗ (bigSep Finset.univ fun i : CellIx => reached ER (cellOn c i) 0) ∗ places c ∗ bigSep Finset.univ (tok (F := F) c)) : sProp 𝕄)
      ⊢ bigSep Finset.univ (ready m) := by
  rw [bigSep_sep', bigSep_sep', bigSep_sep', toks_move, ← bigSep_univ_prod (fun x : Dev nD × CellIx => iprop(∃ κ : ℕ, cellInv ER (sched m) κ (cellOn x.1 x.2))),
    ← bigSep_univ_prod (fun x : Dev nD × CellIx => (reached ER (cellOn x.1 x.2) 0 : sProp 𝕄))]
  iintro ⟨HI, #HR, Hat, Htok⟩
  ihave HK := (BI.bigSep_exists_pi Finset.univ (fun (x : Dev nD × CellIx) (κ : ℕ) => (cellInv ER (sched m) κ (cellOn x.1 x.2) : sProp 𝕄))) $$ HI
  icases HK with ⟨%K, #HI⟩
  have h (c : Dev nD) : iprop(records m K ∗ places c ∗ bigSep Finset.univ fun x : DutyIx => tok (F := F) (owner x c) x) ⊢ ready m c := by
    unfold ready
    iintro ⟨#HR, Hat, Htok⟩
    isplitr
    · iexists K; iexact HR
    isplitl [Hat]; · iexact Hat
    iapply (toks_pay c); iexact Htok
  iapply (bigSep_with_persistent (R := records m K) fun c _ => h c)
  isplitr
  · unfold records
    isplitr; · iexact HI
    iexact HR
  rw [bigSep_sep']
  isplitl [Hat]; · iexact Hat
  iexact Htok

theorem deal_all :
    (bigSep Finset.univ fun c => iprop(Pipeline.ownSems0 (Ix := Unit) (Name := ℕ) (U := UU) (Lvl := ℕ) (Val := Elt F) (τ := τ) osem c ∗ unscopedSems0 c ∗ dealt m c) : sProp 𝕄)
      ⊢ |={Set.univ}=> bigSep Finset.univ (ready m) :=
  ((bigSep_mono fun c _ => alloc_cells m c).trans (bigSep_fupd _ _)).trans (BI.fupd_mono (share_out m))

/-! ## The launch's credit -/

theorem owed_apply {ι : Type} (f : ι → CellTallies nD τ sig Unit) (g : GSem nD τ sig) (u : Unit) : ∀ l : List ι,
    owed l f g u = (l.map fun i => f i g u).sum
  | [] => rfl
  | i :: l => by rw [owed_cons, Pi.add_apply, Finsupp.add_apply, owed_apply f g u l, List.map_cons, List.sum_cons, Nat.add_comm]

theorem owed_zero {ι : Type} {l : List ι} {f : ι → CellTallies nD τ sig Unit} {g : GSem nD τ sig} {u : Unit} (h : ∀ i, f i g u = 0) : owed l f g u = 0 := by
  rw [owed_apply, List.sum_eq_zero]
  intro x hx
  obtain ⟨i, -, rfl⟩ := List.mem_map.mp hx
  exact h i
theorem owed_single {ι : Type} {l : List ι} {f : ι → CellTallies nD τ sig Unit} {g : GSem nD τ sig} {u : Unit} (i : ι) (hl : l.Nodup) (hi : i ∈ l)
    (h : ∀ j, j ≠ i → f j g u = 0) : owed l f g u = f i g u := by
  induction l with
  | nil => exact absurd hi List.not_mem_nil
  | cons j l ih =>
    rw [owed_cons, Pi.add_apply, Finsupp.add_apply]
    obtain ⟨hj, hl'⟩ := List.nodup_cons.mp hl
    rcases List.mem_cons.mp hi with rfl | hi'
    · have h0 : owed l f g u = 0 := by
        rw [owed_apply, List.sum_eq_zero]
        intro x hx
        obtain ⟨k, hk, rfl⟩ := List.mem_map.mp hx
        exact h k fun e => hj (e ▸ hk)
      rw [h0, Nat.zero_add]
    · rw [ih hl' hi', h j fun e => hj (e ▸ hi'), Nat.add_zero]

theorem cell_ne {c d : Dev nD} {i j : CellIx} (h : i ≠ j) : cellOn c i ≠ cellOn d j :=
  fun e => h (congrArg Prod.snd (cellOn_injective (a₁ := (c, i)) (a₂ := (d, j)) e))
theorem cell_eq {c d : Dev nD} {i : CellIx} : cellOn c i = cellOn d i ↔ c = d :=
  ⟨fun e => congrArg Prod.fst (cellOn_injective (a₁ := (c, i)) (a₂ := (d, i)) e), fun e => e ▸ rfl⟩

/-- What device `d` owes device `c`'s barrier cell; its receive cells. -/
theorem due_bar (d c : Dev nD) : O₀ d (barCell c) () = (peers.map fun k => if c = fwd d k then 1 else 0).sum := by
  unfold O₀
  rw [Pi.add_apply, Finsupp.add_apply, owed_zero fun t => owed_zero fun k => ?_, Nat.zero_add, owed_apply]
  · congr 1
    refine List.map_congr_left fun k _ => ?_
    rw [tallyAt_apply]
    by_cases h : c = fwd d k
    · rw [if_pos ⟨cell_eq.mpr h, rfl⟩, if_pos h]
    · rw [if_neg fun e => h (cell_eq.mp e.1), if_neg h]
  · rw [tallyAt_apply, if_neg fun e => cell_ne (by intro h; cases h) e.1]
theorem due_recv (d c : Dev nD) (t : Fin 4) (k : Fin 7) : O₀ d (recvCell c t k) () = if d = fwd c k then N else 0 := by
  unfold O₀
  rw [Pi.add_apply, Finsupp.add_apply, owed_zero (l := peers) fun j => ?_, Nat.add_zero, owed_single t (by decide) (by revert t; decide) fun s hs => owed_zero fun j => ?_,
    owed_single k (by decide) (by revert k; decide) fun j hj => ?_, tallyAt_apply]
  · by_cases h : d = fwd c k
    · rw [if_pos ⟨cell_eq.mpr (by rw [h, bwd_fwd]), rfl⟩, if_pos h]
    · rw [if_neg fun e => h (by rw [cell_eq.mp e.1, fwd_bwd]), if_neg h]
  · rw [tallyAt_apply, if_neg fun e => cell_ne (fun h => hj (congrArg Prod.snd (Sum.inr.inj (Sum.inr.inj h))).symm) e.1]
  · rw [tallyAt_apply, if_neg fun e => cell_ne (fun h => hs (congrArg Prod.fst (Sum.inr.inj (Sum.inr.inj h))).symm) e.1]
  · rw [tallyAt_apply, if_neg fun e => cell_ne (by intro h; cases h) e.1]

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => due_bar d c]
  revert c; decide
theorem launch_recv (c : Dev nD) (t : Fin 4) (k : Fin 7) :
    tallyOn (recvCell c t k) (launchCredit (Pipeline.owing O₀) 0 (recvCell c t k)) = (tallyAt (recvCell c t k) () N : CellTallies nD τ sig Unit) := by
  unfold tallyAt; refine congrArg _ (Finsupp.ext fun u => ?_); cases u
  rw [Pipeline.launchCredit_owing, Finsupp.single_eq_same, Finset.sum_congr rfl fun d _ => due_recv d c t k, Finset.sum_ite_eq' Finset.univ (fwd c k) fun _ => N,
    if_pos (Finset.mem_univ _)]

theorem launch_credits (c : Dev nD) : (Pipeline.launchCred O₀ c : sProp 𝕄) ⊢ credits c := by
  have hr : (bigSepL tiles fun t => bigSepL peers fun k => cred (tallyOn (recvCell c t k) (launchCredit (Pipeline.owing O₀) 0 (recvCell c t k))) : sProp 𝕄)
      ⊢ bigSepL tiles fun t => bigSepL peers fun k => cred (tallyAt (recvCell c t k) () N) :=
    bigSepL_mono fun t _ => bigSepL_mono fun k _ => Entails.of_eq (by rw [launch_recv])
  have hb : (cred (tallyOn (barCell c) (launchCredit (Pipeline.owing O₀) 0 (barCell c))) : sProp 𝕄) ⊢ cred (tallyAt (barCell c) () 7) :=
    Entails.of_eq (by rw [launch_bar])
  have h : (bigSep Finset.univ fun i : CellIx => cred (tallyOn (cellOn c i) (launchCredit (Pipeline.owing O₀) 0 (cellOn c i))) : sProp 𝕄) ⊢ credits c := by
    rw [cells_split]
    unfold credits
    iintro ⟨Hb, -, Hr⟩
    isplitl [Hb]; · iapply hb; iexact Hb
    iapply hr; iexact Hr
  unfold Pipeline.launchCred
  exact ((bigSep_subset (Finset.subset_univ (Finset.univ.map ⟨csem, csem_injective⟩))).trans (Entails.of_eq (bigSep_map _))).trans h

end Cert.KernelIdeal.Run

end
-- ==== Proof.BodyEq.lean ====
/-
# The kernel's printed body is the loops of `Program`
-/
module

public import proofs.«01_k».proof.Proof.Program

@[expose] public section

set_option maxRecDepth 65536
set_option maxHeartbeats 4000000

noncomputable section

namespace Cert.KernelIdeal.Run

open Cert.KernelIdeal Cert.KernelIdeal.Gen
open Idealize.ShloMosaic Idealize.SL.Sem

variable {F : FTy → Type} [FloatOps F]

/-- The printed body is these loops. -/
theorem body_eq (a0 : Memref sig .tc .vmem S2x4096x512 .f32) (h0 : a0.IsWhole) (a1 : Memref sig .tc .vmem S2x128 .f32) (h1 : a1.IsWhole)
    (a2 : Memref sig .tc .vmem S128x512 .f32) (h2 : a2.IsWhole) (a3 : Memref sig .tc .vmem S128x512 .f32) (h3 : a3.IsWhole)
    (a4 : Memref sig .tc .vmem S2x4096x512 .f32) (h4 : a4.IsWhole) (a5 : Memref sig .tc .vmem S4x4096 .f32) (h5 : a5.IsWhole)
    (a6 : Memref sig .tc .vmem S7x4x4096 .f32) (h6 : a6.IsWhole) (a7 a8 : DmaSems sig S7x4) :
    cc0_body (F := F) a0 h0 a1 h1 a2 h2 a3 h3 a4 h4 a5 h5 a6 h6 a7 a8 = body a0 a1 a2 a3 a4 a5 a6 a7 a8 := by
  rw [cc0_body_eq_skeleton]
  rfl

end Cert.KernelIdeal.Run

end
-- ==== Proof.Launch.lean ====
/-
# The launch

The proof data of the pipeline's one point, its body obligation from the body's run, and the run of the whole program: every
device's arguments are left as they were, its result is `outAt`, and every counter is back at zero.
-/
module

public import proofs.«01_k».proof.Proof.Deal
public import proofs.«01_k».proof.Proof.BodyEq
public import Idealize.ShloMosaic.Lib.Pipeline.CollectiveSegs

@[expose] public section

set_option maxRecDepth 16384

noncomputable section

namespace Cert.KernelIdeal.Run

open Cert.KernelIdeal Cert.KernelIdeal.Gen
open Idealize.ShloMosaic
open Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The pipeline's data -/

/-- What a device's body starts from, but for its scratch buffers. -/
def start (c : Dev nD) : sProp 𝕄 := iprop(ready m c ∗ credits c ∗ levAts L lv)
def Φ₀ (c : Dev nD) : sProp 𝕄 := iprop(start m c ∗ stAny c ∗ cmAny c)
def Φ₁ (c : Dev nD) : sProp 𝕄 := iprop((stAny c ∗ cmAny c) ∗ bigSep Finset.univ fun i : CellIx => semVal (cellOn c i) 0)

def dats (_ : Fin 1) (c : Dev nD) : Dat τ (Elt F) Unit ℕ UU ℕ cfg0 c where
  A w := (start₀ m ρ).mem ((cfg0.win w).arr.view.loc (c : Thread nD τ))
  after w _ := match w with
    | ⟨0, _⟩ => xIn m c
    | ⟨1, _⟩ => teIn m c
    | ⟨2, _⟩ => wsIn m c
    | ⟨3, _⟩ => whIn m c
    | ⟨4, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staged block of device `c` that holds `X`. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem staged_is (c : Dev nD) (b : Ref sig .tc) (X : b.ty.Contents (Elt F)) : staged c b X = iprop(((c : Thread nD τ).loc b) ↦{fullShare} X : sProp 𝕄) := by
  have h1 : staged c b X ⊢ (iprop(((c : Thread nD τ).loc b) ↦{fullShare} X) : sProp 𝕄) := by
    iintro ⟨%f, %hf, H⟩
    subst hf
    iexact H
  have h2 : (iprop(((c : Thread nD τ).loc b) ↦{fullShare} X) : sProp 𝕄) ⊢ staged c b X := by
    iintro H
    iexists X
    isplitr; · (ipureintro; rfl)
    iexact H
  exact equiv_iff.mp ⟨h1, h2⟩

theorem before_x (c : Dev nD) (d) : (dats m ρ 0 c).before (0 : Fin 5) t0_0 d = xIn m c := by
  unfold Dat.before; rw [if_pos (fetch0_0 t0_0)]; rfl
theorem before_te (c : Dev nD) (d) : (dats m ρ 0 c).before (1 : Fin 5) t0_0 d = teIn m c := by
  unfold Dat.before; rw [if_pos (fetch0_1 t0_0)]; rfl
theorem before_ws (c : Dev nD) (d) : (dats m ρ 0 c).before (2 : Fin 5) t0_0 d = wsIn m c := by
  unfold Dat.before; rw [if_pos (fetch0_2 t0_0)]; rfl
theorem before_wh (c : Dev nD) (d) : (dats m ρ 0 c).before (3 : Fin 5) t0_0 d = whIn m c := by
  unfold Dat.before; rw [if_pos (fetch0_3 t0_0)]; rfl

/-! ## The body obligation -/

def pre (c : Dev nD) : sProp 𝕄 :=
  iprop(Φ₀ m c ∗ (dats m ρ 0 c).owesAt () t0_0.castSucc
    ∗ (∃ d, staged c cc0_stg0_0 ((dats m ρ 0 c).before (0 : Fin 5) t0_0 d))
    ∗ (∃ d, staged c cc0_stg1_0 ((dats m ρ 0 c).before (1 : Fin 5) t0_0 d))
    ∗ (∃ d, staged c cc0_stg2_0 ((dats m ρ 0 c).before (2 : Fin 5) t0_0 d))
    ∗ (∃ d, staged c cc0_stg3_0 ((dats m ρ 0 c).before (3 : Fin 5) t0_0 d))
    ∗ ∃ d, staged c cc0_stg4_0 ((dats m ρ 0 c).before (4 : Fin 5) t0_0 d))
def post (c : Dev nD) : sProp 𝕄 :=
  iprop(Φ₁ c ∗ (dats m ρ 0 c).owesAt () t0_0.succ
    ∗ staged c cc0_stg0_0 (xIn m c) ∗ staged c cc0_stg1_0 (teIn m c) ∗ staged c cc0_stg2_0 (wsIn m c) ∗ staged c cc0_stg3_0 (whIn m c)
    ∗ staged c cc0_stg4_0 (outAt m c))

theorem post_intro (c : Dev nD) : bodyEnd m c ⊢ post m ρ c := by
  unfold bodyEnd post Φ₁ owing Dat.owesAt Pipeline.owesWithin
  simp only [staged_is]
  rw [show (dats m ρ 0 c).owed t0_0.succ = 0 from rfl]
  iintro ⟨⟨Hx, Hte, Hws, Hwh, Hout⟩, ⟨%W, HO⟩, Hst, Hcm, Hz⟩
  isplitl [Hst Hcm Hz]
  · isplitl [Hst Hcm]
    · isplitl [Hst]; · iexact Hst
      iexact Hcm
    iexact Hz
  isplitl [HO]
  · iexists W
    isplitr; · ipureintro; exact fun _ _ => Or.inl trivial
    iexact HO
  isplitl [Hx]; · iexact Hx
  isplitl [Hte]; · iexact Hte
  isplitl [Hws]; · iexact Hws
  isplitl [Hwh]; · iexact Hwh
  iexact Hout

theorem runs_pre (c : Dev nD) :
    pre m ρ c ⊢ runs c (body xM teM wsM whM outM stM cmM cc0_scratch2 cc0_scratch3) (fun _ => post m ρ c) := by
  unfold pre Φ₀ start ready Dat.owesAt Pipeline.owesWithin
  simp only [staged_is, before_x, before_te, before_ws, before_wh]
  rw [show (dats m ρ 0 c).owed t0_0.castSucc = O₀ c from rfl]
  iintro ⟨⟨⟨⟨⟨%K, #HR⟩, Hat, Htok⟩, HC, #Hlev⟩, Hst, Hcm⟩, ⟨%W, %hW, HO⟩, ⟨%d0, Hx⟩, ⟨%d1, Hte⟩, ⟨%d2, Hws⟩, ⟨%d3, Hwh⟩, ⟨%d4, Hout⟩⟩
  iapply (runs_body m K c fun _ => post m ρ c)
  isplitr; · iexact HR
  isplitr; · iexact Hlev
  isplitl [Hx Hte Hws Hwh Hout]
  · isplitl [Hx]; · iexact Hx
    isplitl [Hte]; · iexact Hte
    isplitl [Hws]; · iexact Hws
    isplitl [Hwh]; · iexact Hwh
    iexists _; iexact Hout
  isplitl [HO]
  · unfold owing
    iexists W; iexact HO
  isplitl [Hst]; · iexact Hst
  isplitl [Hcm]; · iexact Hcm
  isplitl [Hat]; · iexact Hat
  isplitl [Htok]; · iexact Htok
  isplitl [HC]; · iexact HC
  iintro H
  iapply (post_intro m ρ c); iexact H

theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show pre m ρ c ⊢ wp frame (wpE (defs₀ (F := F)) 𝒱₀ c none) Set.univ (bodyAt0 t0_0) (fun _ => post m ρ c)
  exact (runs_pre m ρ c).trans (Entails.of_eq (congrArg (fun p => wp frame (wpE (defs₀ (F := F)) 𝒱₀ c none) Set.univ p fun _ => post m ρ c)
    (body_eq (F := F) _ _ _ _ _ _ _ _ _ _ _ _ _ _ _ _).symm))

/-! ## The launch's side conditions -/

theorem ownSemFacts : Pipeline.OwnSemFacts cfg0.spec osem :=
  ⟨by decide +kernel, osem_injective, by decide +kernel⟩
theorem share_eq (c : Dev nD) (w : Fin cfg0.W) : (dats m ρ 0 c).share w = fullShare := by unfold Dat.share; split <;> rfl
theorem stage_cells : ∀ (w : Fin cfg0.W) (s : Fin (cfg0.win w).nbuf) (i : CellIx), csem i ≠ .dma ((cfg0.win w).sem s) := by decide +kernel

def u₀ : UU := (initOf (Pipeline.cells cfgs cellOf_inj) (Pipeline.launchToks cfgs cellOf_inj), initOf allCells allToks)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready m c)
      ⊢ |={Set.univ}=> iprop(start m c ∗ emp) := by
  iintro ⟨-, Hlev, Hcr, -, HG⟩
  ihave Hc := (launch_credits (F := F) c) $$ Hcr
  imodintro
  unfold start
  isplitl
  · isplitl [HG]; · iexact HG
    isplitl [Hc]; · iexact Hc
    iexact Hlev
  · iempintro
theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hst, Hcm⟩
  isplitl [Hs]; · iexact Hs
  isplitl [Hst]; · iexact Hst
  iexact Hcm
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [← sems_eq]
  iintro ⟨Hr, Hown, Hun⟩
  isplitl [Hun]; · iexact Hun
  isplitl [Hown]; · iexact Hown
  iexact Hr
theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_cells w s) _ (by
      rcases t with ⟨_ | _, ht⟩
      · exact Or.inl rfl
      · exact Or.inr rfl)

/-! ## The run -/

/-- What a window's array holds after the run. -/
def finalA (c : Dev nD) (w : Fin cfg0.W) : Buf (Elt F) ((cfg0.win w).arr.view.loc (c : Thread nD τ)) := (dats m ρ 0 c).arrAt w cfg0.N
def QC : PUnit × MemSt nD τ sig (Elt F) → Prop := fun r =>
  ∀ c : Dev nD, ∀ w : Fin cfg0.W, r.2.mem ((cfg0.win w).arr.view.loc (c : Thread nD τ)) = finalA m ρ c w

/-- From any memory with its counters at zero the program ends, with every window's array at its final contents and every counter
    at zero. -/
theorem run_main : θ_run defs (onTc (τ := τ) (main (F := F))) (start₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m) (G' := ready m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := deal_all m)
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array is as it was. -/
theorem finalA_in (c : Dev nD) (w : Fin cfg0.W) (h : (cfg0.spec w).isOut = false) : finalA m ρ c w = (start₀ m ρ).mem ((cfg0.win w).arr.view.loc (c : Thread nD τ)) :=
  (dats (F := F) m ρ 0 c).arrAt_in w h _

end Cert.KernelIdeal.Run

end
-- ==== Proof.Frames.lean ====
/-
# The frames

What the run leaves of the arguments and of the counters, for both programs of the kernel (they have one text, read over
different float values) and for the reference, which is host code alone.
-/
module

public import proofs.«01_k».proof.Defs
public import proofs.«01_k».proof.Proof.Launch
public import proofs.«01_k».proof.Proof.Gen.Kernel
public import proofs.«01_k».proof.Proof.Gen.ReferenceIdeal.Run

@[expose] public section

set_option maxRecDepth 16384

noncomputable section

namespace Cert.Frames

open Idealize.ShloMosaic Idealize.SL.Sem
open Cert.KernelIdeal.Run (run_main finalA_in QC)

attribute [local instance] Cert.Kernel.Gen.facts Cert.KernelIdeal.Gen.facts Cert.ReferenceIdeal.Gen.facts

/-- What a run keeps: the four arguments of every device, and every counter at zero. -/
theorem kept {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono
    (fun _ h => ⟨fun c => ⟨(h.1 c (0 : Fin 5)).trans (finalA_in m ρ c (0 : Fin 5) rfl), (h.1 c (1 : Fin 5)).trans (finalA_in m ρ c (1 : Fin 5) rfl),
      (h.1 c (2 : Fin 5)).trans (finalA_in m ρ c (2 : Fin 5) rfl), (h.1 c (3 : Fin 5)).trans (finalA_in m ρ c (3 : Fin 5) rfl)⟩, h.2⟩)
    (run_main (F := F) m ρ)

/-- The two programs' tables of bodies are one: they have the same text. -/
theorem bodies_eq {F : FTy → Type} [FloatOps F] : @Cert.Kernel.defs₀ F _ _ = @Cert.KernelIdeal.defs₀ F _ _ := by
  unfold Cert.Kernel.defs₀ Cert.KernelIdeal.defs₀
  refine congrArg Defs.onTc ?_
  funext l x
  match l, x with
  | 0, (t, s) => rfl
  | ⟨n + 1, h⟩, _ => exact absurd h (Nat.not_lt.2 (Nat.le_add_left _ _))

theorem defs_eq {F : FTy → Type} [FloatOps F] : @Cert.Kernel.defs F _ _ = @Cert.KernelIdeal.defs F _ _ :=
  congrArg (Pipeline.defs (Cert.KernelIdeal.pcfgs (F := F))) bodies_eq

/-- The kernel over the float words ends, keeps its arguments and leaves every counter at zero. -/
theorem frame_kernel : Cert.quiescent_Kernel := fun m ρ _ => by
  rw [defs_eq]
  exact kept (F := Bits) m ρ

/-- The same over the extended reals. -/
theorem frame_ideal : Cert.quiescent_KernelIdeal := fun m ρ _ => kept (F := Ideal) m ρ

/-- The reference ends and keeps its arguments; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Frames

end
-- ==== Proof.Output.lean ====
/-
# What the run leaves in the result

Each of the kernel's windows is the whole of its array, so the blocks that the body read are the arrays of the arguments
and the block that it wrote is the array of the result.
-/
module

public import proofs.«01_k».proof.Proof.Launch

@[expose] public section

set_option maxRecDepth 16384

noncomputable section

namespace Cert.KernelIdeal.Run

open Cert.KernelIdeal Cert.KernelIdeal.Gen
open Idealize.ShloMosaic
open Idealize.ShloMosaic.TcCoe
open Idealize.ShloMosaic.ValueIdx (ix2 ix3)

variable {F : FTy → Type} [FloatOps F]
variable (m : (ℓ : Loc nD τ sig) → Buf (Elt F) ℓ) (ρ : Dev nD → PrngReg)

theorem xIn_eq (c : Dev nD) : xIn m c = m ((c.tc : Thread nD τ).loc main_arg0) := by
  have hz : (fun a => win0_0.index t0_0 a * main_arg0.ty.shape.size a) = fun _ => 0 := funext fun a => by fin_cases a <;> decide
  have h : (win0_0.blk t0_0).view.read (Elt F) (m ((c.tc : Thread nD τ).loc main_arg0)) = m ((c.tc : Thread nD τ).loc main_arg0) :=
    Memref.read_access_unit_zero (Elt F) main_arg0 hz _ _
  exact h
theorem teIn_eq (c : Dev nD) : teIn m c = m ((c.tc : Thread nD τ).loc main_arg1) := by
  have hz : (fun a => win0_1.index t0_0 a * main_arg1.ty.shape.size a) = fun _ => 0 := funext fun a => by fin_cases a <;> decide
  have h : (win0_1.blk t0_0).view.read (Elt F) (m ((c.tc : Thread nD τ).loc main_arg1)) = m ((c.tc : Thread nD τ).loc main_arg1) :=
    Memref.read_access_unit_zero (Elt F) main_arg1 hz _ _
  exact h
theorem wsIn_eq (c : Dev nD) : wsIn m c = m ((c.tc : Thread nD τ).loc main_arg2) := by
  have hz : (fun a => win0_2.index t0_0 a * main_arg2.ty.shape.size a) = fun _ => 0 := funext fun a => by fin_cases a <;> decide
  have h : (win0_2.blk t0_0).view.read (Elt F) (m ((c.tc : Thread nD τ).loc main_arg2)) = m ((c.tc : Thread nD τ).loc main_arg2) :=
    Memref.read_access_unit_zero (Elt F) main_arg2 hz _ _
  exact h
theorem whIn_eq (c : Dev nD) : whIn m c = m ((c.tc : Thread nD τ).loc main_arg3) := by
  have hz : (fun a => win0_3.index t0_0 a * main_arg3.ty.shape.size a) = fun _ => 0 := funext fun a => by fin_cases a <;> decide
  have h : (win0_3.blk t0_0).view.read (Elt F) (m ((c.tc : Thread nD τ).loc main_arg3)) = m ((c.tc : Thread nD τ).loc main_arg3) :=
    Memref.read_access_unit_zero (Elt F) main_arg3 hz _ _
  exact h

/-- The result's array after the run is what the body left in the output's staging buffer. -/
theorem finalA_out (c : Dev nD) : finalA m ρ c (4 : Fin 5) = outAt m c := by
  have hz : (fun a => win0_4.index t0_0 a * main_v1.ty.shape.size a) = fun _ => 0 := funext fun a => by fin_cases a <;> decide
  have h : (win0_4.blk t0_0).view.read (Elt F) (finalA m ρ c (4 : Fin 5)) = outAt m c := by
    unfold finalA
    rw [show cfg0.N = ((0 : Fin 1) : Fin cfg0.N).val + 1 from rfl, (dats m ρ 0 c).arrAt_succ (4 : Fin 5) (0 : Fin 1)]
    rw [show (cfg0.win (4 : Fin 5)).flush (0 : Fin 1) = true from by decide, if_pos rfl]
    exact View.read_write_univ _ _
  exact (Memref.read_access_unit_zero (Elt F) main_v1 hz _ _).symm.trans h

/-- Tile `t` of a device's block holds rows `1024 t` to `1024 t + 1023` of each of the two batches. -/
theorem xTile_at (c : Dev nD) (t : Fin 4) (b : Fin 2) (r : Fin 1024) (l : Fin 512) :
    xTile m c t (ix3 b r l) = m ((c.tc : Thread nD τ).loc main_arg0) (ix3 b (⟨1024 * t.val + r.val, by omega⟩ : Fin 4096) l) := by
  unfold xTile
  rw [xIn_eq]
  refine congrArg (m ((c.tc : Thread nD τ).loc main_arg0)) (funext fun a => Fin.ext ?_)
  fin_cases a
  · show 0 + 1 * b.val = b.val
    omega
  · show 1024 * t.val + 1 * r.val = 1024 * t.val + r.val
    omega
  · show 0 + 1 * l.val = l.val
    omega

theorem te_eq (c : Dev nD) : teM.view.readAt (Elt F) rTe.toLoadRect (teIn m c) = m ((c.tc : Thread nD τ).loc main_arg1) := by
  rw [teIn_eq]
  exact Memref.readAt_unit_zero (Elt F) cc0_stg1_0 (by funext a; fin_cases a <;> rfl) _ _
theorem ws_eq (c : Dev nD) : wsM.view.readAt (Elt F) rW.toLoadRect (wsIn m c) = m ((c.tc : Thread nD τ).loc main_arg2) := by
  rw [wsIn_eq]
  exact Memref.readAt_unit_zero (Elt F) cc0_stg2_0 (by funext a; fin_cases a <;> rfl) _ _
theorem wh_eq (c : Dev nD) : whM.view.readAt (Elt F) rW.toLoadRect (whIn m c) = m ((c.tc : Thread nD τ).loc main_arg3) := by
  rw [whIn_eq]
  exact Memref.readAt_unit_zero (Elt F) cc0_stg3_0 (by funext a; fin_cases a <;> rfl) _ _

end Cert.KernelIdeal.Run

end
-- ==== Proof.Numbers.lean ====
/-
# The numbers

The constants of the two programs as extended reals, and the equation of real numbers that the two normalisations rest on: for a
row of finite numbers, the mean of the squares less the square of the mean is the mean of the squared distances from the mean,
and multiplying by `1 / √` is dividing by `√`.
-/
module

public import Idealize.ShloMosaic.PureOps.Ideal
public import Idealize.ShloMosaic.PureOps.Ideal.Laws
public import Mathlib.Tactic.Positivity
public import Mathlib.Tactic.Ring
public import Mathlib.Tactic.FieldSimp
public import Mathlib.Tactic.NormNum

@[expose] public section

noncomputable section

namespace Cert.Numbers

open Idealize.ShloMosaic

/-- A row's length, and the small number under the root, as reals. -/
def len : ℝ := 4096
def eps : ℝ := (2 ^ 23 + 2606508 : ℕ) * (2 : ℝ) ^ (-40 : ℤ)

theorem len_pos : 0 < len := by unfold len; norm_num
theorem eps_pos : 0 < eps := by unfold eps; positivity

theorem len_bits : Ideal.ofBits .f32 0x45800000#32 = (len : EReal) := by
  simp [Ideal.ofBits, Ideal.ieee, len]
  norm_num
  exact (EReal.coe_mul _ _).symm.trans (congrArg Real.toEReal (by norm_num))
theorem eps_bits : Ideal.ofBits .f32 0x3727C5AC#32 = (eps : EReal) := by
  simp [Ideal.ofBits, Ideal.ieee, eps]
theorem top_bits : Ideal.ofBits .f32 0x7F800000#32 = (⊤ : EReal) := by
  simp [Ideal.ofBits, Ideal.ieee]

/-- A sum of reals, as an extended real. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- Division by a real that is not zero. -/
theorem div_coe (a : EReal) {r : ℝ} (h : r ≠ 0) : Ideal.div a (r : EReal) = a * ((r⁻¹ : ℝ) : EReal) := by
  unfold Ideal.div
  rw [if_neg (by exact_mod_cast h), EReal.coe_inv]
theorem div_coe_coe (a : ℝ) {r : ℝ} (h : r ≠ 0) : Ideal.div (a : EReal) (r : EReal) = ((a / r : ℝ) : EReal) := by
  rw [div_coe _ h, ← EReal.coe_mul, div_eq_mul_inv]

theorem sqrt_coe {r : ℝ} (h : 0 < r) : Ideal.sqrt (r : EReal) = (Real.sqrt r : EReal) := by
  show (if r < 0 then (⊥ : EReal) else _) = _
  rw [if_neg h.le.not_gt]
theorem rsqrt_coe {r : ℝ} (h : 0 < r) : Ideal.rsqrt (r : EReal) = ((Real.sqrt r)⁻¹ : ℝ) := by
  show (if r < 0 then (⊥ : EReal) else if r = 0 then ⊤ else _) = _
  rw [if_neg h.le.not_gt, if_neg h.ne']

/-- The mean of the squared distances from the mean. -/
theorem variance (f : Fin 4096 → ℝ) :
    (∑ j, f j * f j) / len - (∑ j, f j) / len * ((∑ j, f j) / len)
      = (∑ j, (f j - (∑ j, f j) / len) * (f j - (∑ j, f j) / len)) / len := by
  have h : ∀ μ : ℝ, (∑ j, (f j - μ) * (f j - μ)) = (∑ j, f j * f j) - 2 * μ * (∑ j, f j) + len * (μ * μ) := by
    intro μ
    have h1 : ∀ j, (f j - μ) * (f j - μ) = f j * f j - 2 * μ * f j + μ * μ := fun j => by ring
    simp only [h1]
    rw [Finset.sum_add_distrib, Finset.sum_sub_distrib, ← Finset.mul_sum, Finset.sum_const, Finset.card_univ, Fintype.card_fin, nsmul_eq_mul]
    unfold len
    norm_num
  rw [h]
  have hl := len_pos.ne'
  field_simp
  ring

/-- What the kernel computes of a row's entry from the row's sum and its sum of squares. -/
def byMoments (x s q : EReal) : EReal :=
  (x - Ideal.div s len) * Ideal.rsqrt (Ideal.div q len - Ideal.div s len * Ideal.div s len + eps)
/-- What the reference computes of it from the row's mean and its sum of squared distances. -/
def byDistances (x s v : EReal) : EReal :=
  Ideal.div (x - Ideal.div s len) (Ideal.sqrt (Ideal.div v len + eps))

/-- On a row of finite numbers the two are the same. -/
theorem normalised (f : Fin 4096 → EReal) (g : Fin 4096 → ℝ) (h : ∀ j, f j = (g j : EReal)) (j : Fin 4096) :
    byMoments (f j) (∑ j, f j) (∑ j, f j * f j)
      = byDistances (f j) (∑ j, f j) (∑ k, (f k - Ideal.div (∑ j, f j) len) * (f k - Ideal.div (∑ j, f j) len)) := by
  unfold byMoments byDistances
  simp only [h, ← EReal.coe_mul, coe_sum, div_coe_coe _ len_pos.ne', ← EReal.coe_sub, ← EReal.coe_add]
  rw [variance g]
  have hp : 0 < (∑ j, (g j - (∑ j, g j) / len) * (g j - (∑ j, g j) / len)) / len + eps :=
    add_pos_of_nonneg_of_pos (div_nonneg (Finset.sum_nonneg fun j _ => mul_self_nonneg _) len_pos.le) eps_pos
  rw [rsqrt_coe hp, sqrt_coe hp, div_coe _ (Real.sqrt_pos.mpr hp).ne']

end Cert.Numbers

end
-- ==== Proof.Pieces.lean ====
/-
# The kernel's pieces at an element

Each vector expression of the body, read at one index over the extended reals.
-/
module

public import proofs.«01_k».proof.Proof.Gen.KernelIdeal.Skeleton
public import proofs.«01_k».proof.Proof.Gen.KernelIdeal.Launch
public import proofs.«01_k».proof.Proof.Gen.ReferenceIdeal
public import proofs.«01_k».proof.Proof.Numbers
public import Idealize.ShloMosaic.Lib.Pointwise

@[expose] public section

set_option maxRecDepth 16384

noncomputable section

namespace Cert.Pieces

open Idealize.ShloMosaic Cert.KernelIdeal Cert.KernelIdeal.Gen Cert.Numbers

/-- A tile's partial sums, and its partial sums of squares. -/
theorem pay2_at (v : FVec Ideal S2x1024x512 .f32) (b : Fin 2) (r : Fin 1024) :
    k0_pay2 (F := Ideal) v (ix2 b r) = ∑ l : Fin 512, v (ix3 b r l) := by
  pointwise [k0_pay2, k0_pay1]
theorem pay3_at (v : FVec Ideal S2x1024x512 .f32) (b : Fin 2) (r : Fin 1024) :
    k0_pay3 (F := Ideal) v (ix2 b r) = ∑ l : Fin 512, v (ix3 b r l) * v (ix3 b r l) := by
  pointwise [k0_pay3, k0_pay1]

/-- One plus the scale of a column, and its shift. -/
theorem pay17_at (e : FVec Ideal S2x128 .f32) (w : FVec Ideal S128x512 .f32) (b : Fin 2) (l : Fin 512) :
    k0_pay17 (F := Ideal) (k0_pay16 e w) (Scalar.ofBits .f32 0x3F800000#32) (ix3 b 0 l) = 1 + ∑ k : Fin 128, e (ix2 b k) * w (ix2 k l) := by
  pointwise [k0_pay17, k0_pay16]
theorem pay18_at (e : FVec Ideal S2x128 .f32) (w : FVec Ideal S128x512 .f32) (b : Fin 2) (l : Fin 512) :
    k0_pay18 (F := Ideal) (k0_pay15 e w) (ix3 b 0 l) = ∑ k : Fin 128, e (ix2 b k) * w (ix2 k l) := by
  pointwise [k0_pay18, k0_pay15]

/-- The device's own partial sums and those of its first six peers; those of the last. -/
theorem pay19_at (s : FVec Ideal S4x1024 .f32) (c0 c1 c2 c3 c4 c5 : FVec Ideal S1x4x1024 .f32) (q : Fin 4) (r : Fin 1024) :
    k0_pay19 (F := Ideal) s c0 c1 c2 c3 c4 c5 (ix2 q r)
      = s (ix2 q r) + c0 (ix3 0 q r) + c1 (ix3 0 q r) + c2 (ix3 0 q r) + c3 (ix3 0 q r) + c4 (ix3 0 q r) + c5 (ix3 0 q r) := by
  pointwise [k0_pay19]
theorem pay20_at (c6 : FVec Ideal S1x4x1024 .f32) (q : Fin 4) (r : Fin 1024) :
    k0_pay20 (F := Ideal) c6 (ix2 q r) = c6 (ix3 0 q r) := by
  pointwise [k0_pay20]

/-- A tile's result: the element normalised by the moments of its row, scaled and shifted. -/
theorem pay21_at (sc sh : FVec Ideal S2x1x512 .f32) (s c6 : FVec Ideal S4x1024 .f32) (v : FVec Ideal S2x1024x512 .f32)
    (b : Fin 2) (r : Fin 1024) (l : Fin 512) :
    k0_pay21 (F := Ideal) sc sh s c6 v (ix3 b r l)
      = byMoments (v (ix3 b r l)) (s (ix2 (b.castAdd 2) r) + c6 (ix2 (b.castAdd 2) r)) (s (ix2 (b.natAdd 2) r) + c6 (ix2 (b.natAdd 2) r))
          * sc (ix3 b 0 l) + sh (ix3 b 0 l) := by
  pointwise [k0_pay21, byMoments]
  rw [show Ideal.ofBits .f32 1166016512#32 = (len : EReal) from len_bits,
    show Ideal.ofBits .f32 925353388#32 = (eps : EReal) from eps_bits]
  rfl

end Cert.Pieces

end
-- ==== Proof.Value.lean ====
/-
# The kernel's result at an element

The eight devices' partial sums of a row, added up on every device, are the row's sum over all the columns of the eight
blocks; likewise the partial sums of squares. From the two the body normalises its own elements.
-/
module

public import proofs.«01_k».proof.Proof.Output
public import proofs.«01_k».proof.Proof.Pieces

@[expose] public section

set_option maxRecDepth 16384

noncomputable section

namespace Cert.Value

open Idealize.ShloMosaic Cert.KernelIdeal Cert.KernelIdeal.Gen Cert.Numbers Cert.Pieces
open Cert.KernelIdeal.Run (fwd stack xTile statOf slotOf scOf shOf outTile outAt scaleOf shiftOf xTile_at te_eq ws_eq wh_eq)

variable (m : (ℓ : Loc nD τ sig) → Buf (Elt Ideal) ℓ)

/-- A device's arguments. -/
def x (c : Dev nD) : FVec Ideal S2x4096x512 .f32 := m ((c.tc : Thread nD τ).loc main_arg0)
def e (c : Dev nD) : FVec Ideal S2x128 .f32 := m ((c.tc : Thread nD τ).loc main_arg1)
def ws (c : Dev nD) : FVec Ideal S128x512 .f32 := m ((c.tc : Thread nD τ).loc main_arg2)
def wh (c : Dev nD) : FVec Ideal S128x512 .f32 := m ((c.tc : Thread nD τ).loc main_arg3)

/-- Row `r` of tile `t`, among all rows. -/
def row (t : Fin 4) (r : Fin 1024) : Fin 4096 := ⟨1024 * t.val + r.val, by omega⟩

theorem tile_at (c : Dev nD) (t : Fin 4) (b : Fin 2) (r : Fin 1024) (l : Fin 512) :
    xTile m c t (ix3 b r l) = x m c (ix3 b (row t r) l) := xTile_at m c t b r l

/-- The first two rows of the stack are the first array's, the last two the second's. -/
theorem stack_low (u v : FVec Ideal S2x1024 .f32) (b : Fin 2) (r : Fin 1024) : stack (F := Ideal) u v (ix2 (b.castAdd 2) r) = u (ix2 b r) :=
  dif_pos b.isLt
theorem stack_high (u v : FVec Ideal S2x1024 .f32) (b : Fin 2) (r : Fin 1024) : stack (F := Ideal) u v (ix2 (b.natAdd 2) r) = v (ix2 b r) := by
  refine (dif_neg (show ¬ 2 + b.val < 2 by omega)).trans (congrArg (fun q : Fin 2 => v (ix2 q r)) (Fin.ext ?_))
  show 2 + b.val - 2 = b.val
  omega

theorem sums_at (c : Dev nD) (t : Fin 4) (b : Fin 2) (r : Fin 1024) :
    statOf m c t (ix2 (b.castAdd 2) r) = ∑ l : Fin 512, x m c (ix3 b (row t r) l) := by
  unfold statOf
  rw [stack_low, pay2_at]
  simp only [tile_at]
theorem squares_at (c : Dev nD) (t : Fin 4) (b : Fin 2) (r : Fin 1024) :
    statOf m c t (ix2 (b.natAdd 2) r) = ∑ l : Fin 512, x m c (ix3 b (row t r) l) * x m c (ix3 b (row t r) l) := by
  unfold statOf
  rw [stack_high, pay3_at]
  simp only [tile_at]

/-- A device and the seven after it are all eight devices. -/
theorem across (f : Fin 8 → EReal) (c : Fin 8) :
    f c + f (c + 1) + f (c + 2) + f (c + 3) + f (c + 4) + f (c + 5) + f (c + 6) + f (c + 7) = ∑ d : Fin 8, f d := by
  rw [← Equiv.sum_comp (Equiv.addLeft c) f, Fin.sum_univ_eight]
  simp only [Equiv.coe_addLeft, add_zero]

/-- What a device adds up of tile `t`: its own partial sums and, from each slot, a peer's. -/
theorem totals (c : Dev nD) (t : Fin 4) (q : Fin 4) (r : Fin 1024) :
    k0_pay19 (F := Ideal) (statOf m c t) (slotOf m c t 0) (slotOf m c t 1) (slotOf m c t 2) (slotOf m c t 3) (slotOf m c t 4) (slotOf m c t 5) (ix2 q r)
        + k0_pay20 (F := Ideal) (slotOf m c t 6) (ix2 q r)
      = ∑ d : Fin 8, statOf m d t (ix2 q r) := by
  rw [pay19_at, pay20_at]
  exact across (fun d => statOf m d t (ix2 q r)) c

/-- A device's element of the result, from its own element of `x`, the row's sums over the blocks of all devices, and the
    column's scale and shift. -/
def element (c : Dev nD) (b : Fin 2) (r : Fin 4096) (l : Fin 512) : EReal :=
  byMoments (x m c (ix3 b r l)) (∑ d : Fin 8, ∑ k : Fin 512, x m d (ix3 b r k)) (∑ d : Fin 8, ∑ k : Fin 512, x m d (ix3 b r k) * x m d (ix3 b r k))
    * (1 + ∑ k : Fin 128, e m c (ix2 b k) * ws m c (ix2 k l)) + ∑ k : Fin 128, e m c (ix2 b k) * wh m c (ix2 k l)

theorem outTile_at (c : Dev nD) (t : Fin 4) (b : Fin 2) (r : Fin 1024) (l : Fin 512) : outTile m c t (ix3 b r l) = element m c b (row t r) l := by
  unfold outTile element
  rw [pay21_at, totals, totals, tile_at]
  simp only [sums_at, squares_at]
  unfold scOf shOf scaleOf shiftOf
  rw [te_eq, ws_eq, wh_eq, pay17_at, pay18_at]
  rfl

theorem outAt_at (c : Dev nD) (b : Fin 2) (r : Fin 4096) (l : Fin 512) : outAt m c (ix3 b r l) = element m c b r l := by
  refine (outTile_at m c ⟨r.val / 1024, by omega⟩ b ⟨r.val % 1024, Nat.mod_lt _ (by decide)⟩ l).trans ?_
  refine congrArg (fun q => element m c b q l) (Fin.ext ?_)
  show 1024 * (r.val / 1024) + r.val % 1024 = r.val
  omega

end Cert.Value

end
-- ==== Proof.Reference.lean ====
/-
# The reference at an element

The reference's result is one term of host operations. Here it is written in named parts (the mean of a row, the mean of
the squared distances from it, the scale and the shift of a column), and each part is read at an index.
-/
module

public import proofs.«01_k».proof.Proof.Gen.ReferenceIdeal.Run
public import proofs.«01_k».proof.Proof.Numbers
public import Idealize.ShloMosaic.Lib.Pointwise

@[expose] public section

set_option maxRecDepth 16384

noncomputable section

namespace Cert.Reference

open Idealize.ShloMosaic Idealize.SL.Sem Cert.ReferenceIdeal Cert.ReferenceIdeal.Gen Cert.Numbers

variable (x : FVec Ideal S2x4096x4096 .f32) (e : FVec Ideal S2x128 .f32) (w : FVec Ideal S128x4096 .f32) (wh : FVec Ideal S128x4096 .f32)

/-- The mean of each row, with the last axis kept at length one. -/
def means : FVec Ideal S2x4096x1 .f32 :=
  Host.divf (broadcastInDim S2x4096x1 ![0, 1] bcast_S2x4096_S2x4096x1_0_1
      (Host.reduceAdd x (constant S_ .f32 0x00000000#32) reducesTo_S2x4096x4096_S2x4096_d2 h_S_))
    (broadcastInDim S2x4096x1 ![] bcast_S_S2x4096x1 (constant S_ .f32 0x45800000#32))

/-- The distance of each element from the mean of its row. -/
def dists : FVec Ideal S2x4096x4096 .f32 :=
  subf x (broadcastInDim S2x4096x4096 ![0, 1, 2] bcast_S2x4096x1_S2x4096x4096_0_1_2 (means x))

/-- How many elements the variance divides by: the length of a row less zero. -/
def count : FVec Ideal S_ .f32 := subf (constant S_ .f32 0x45800000#32) (sitofp .f32 (constantI S_ 32 0#32))

/-- The mean of the squared distances of each row; were the count not positive, a fill value in its place. -/
def spreads : FVec Ideal S2x4096x1 .f32 :=
  select (broadcastInDim S2x4096x1 ![] bcast_S_S2x4096x1 (cmpf .ogt count (constant S_ .f32 0x00000000#32)))
    (Host.divf (broadcastInDim S2x4096x1 ![0, 1] bcast_S2x4096_S2x4096x1_0_1
        (Host.reduceAdd (mulf (dists x) (dists x)) (constant S_ .f32 0x00000000#32) reducesTo_S2x4096x4096_S2x4096_d2 h_S_))
      (broadcastInDim S2x4096x1 ![] bcast_S_S2x4096x1 count))
    (broadcastInDim S2x4096x1 ![] bcast_S_S2x4096x1 (id (constant S_ .f32 0x7FC00000#32)))

/-- The products of the embedding with a matrix of weights, with an axis of length one between. -/
def columns : FVec Ideal S2x1x4096 .f32 :=
  broadcastInDim S2x1x4096 ![0, 2] bcast_S2x4096_S2x1x4096_0_2
    (Host.dotGeneral dot_S2x128_S128x4096_S2x4096_1_0_0_1_n_n none e w)

/-- The reference's result. -/
def result : FVec Ideal S2x4096x4096 .f32 :=
  addf
    (mulf
      (Host.divf (dists x)
        (broadcastInDim S2x4096x4096 ![0, 1, 2] bcast_S2x4096x1_S2x4096x4096_0_1_2
          (Host.sqrt (addf (spreads x) (broadcastInDim S2x4096x1 ![] bcast_S_S2x4096x1 (constant S_ .f32 0x3727C5AC#32))))))
      (broadcastInDim S2x4096x4096 ![0, 1, 2] bcast_S2x1x4096_S2x4096x4096_0_1_2
        (addf (broadcastInDim S2x1x4096 ![] bcast_S_S2x1x4096 (constant S_ .f32 0x3F800000#32)) (columns e w))))
    (broadcastInDim S2x4096x4096 ![0, 1, 2] bcast_S2x1x4096_S2x4096x4096_0_1_2 (columns e wh))

/-! ## The parts at an index -/

theorem means_at (b : Fin 2) (r : Fin 4096) :
    means x (ix3 b r 0) = Ideal.div (∑ j : Fin 4096, x (ix3 b r j)) len := by
  pointwise [means]
  rw [show Ideal.ofBits .f32 1166016512#32 = (len : EReal) from len_bits]

theorem dists_at (b : Fin 2) (r j : Fin 4096) : dists x (ix3 b r j) = x (ix3 b r j) - means x (ix3 b r 0) := by
  pointwise [dists]

/-- The word zero, as a float, is zero. -/
theorem zero_word : FloatOps.sitofp (F := Ideal) .f32 (0#32) = (0 : EReal) := by
  show (((0#32 : BitVec 32).toInt : ℝ) : EReal) = 0
  simp

theorem count_at (i : S_.Idx) : count i = len := by
  pointwise [count]
  rw [show Ideal.ofBits .f32 1166016512#32 = (len : EReal) from len_bits, show FloatOps.sitofp (F := Ideal) .f32 0#32 = 0 from zero_word, sub_zero]

theorem spreads_at (b : Fin 2) (r : Fin 4096) :
    spreads x (ix3 b r 0) = Ideal.div (∑ j : Fin 4096, dists x (ix3 b r j) * dists x (ix3 b r j)) len := by
  pointwise [spreads]
  rw [count_at, if_pos (EReal.coe_pos.2 len_pos)]

theorem columns_at (b : Fin 2) (j : Fin 4096) : columns e w (ix3 b 0 j) = ∑ k : Fin 128, e (ix2 b k) * w (ix2 k j) := by
  pointwise [columns]

/-- The reference's result at an element. -/
theorem result_at (b : Fin 2) (r j : Fin 4096) :
    result x e w wh (ix3 b r j)
      = byDistances (x (ix3 b r j)) (∑ k : Fin 4096, x (ix3 b r k))
          (∑ k : Fin 4096, (x (ix3 b r k) - Ideal.div (∑ k : Fin 4096, x (ix3 b r k)) len)
            * (x (ix3 b r k) - Ideal.div (∑ k : Fin 4096, x (ix3 b r k)) len))
          * (1 + ∑ k : Fin 128, e (ix2 b k) * w (ix2 k j)) + ∑ k : Fin 128, e (ix2 b k) * wh (ix2 k j) := by
  pointwise [result]
  rw [show Ideal.ofBits .f32 925353388#32 = (eps : EReal) from eps_bits, spreads_at, columns_at, columns_at]
  simp only [dists_at, means_at, byDistances]

/-- Every execution of the reference ends with `result` of its arguments, the arguments kept. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21)
          = result (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run (F := Ideal) m ρ

end Cert.Reference

end
-- ==== Proof.Finite.lean ====
/-
# What the precondition says

`finite_x` asks that the absolute value of every element of `x` be below infinity; then every element is a real number.
-/
module

public import proofs.«01_k».proof.Pre_finite_x_KernelIdeal
public import proofs.«01_k».proof.Pre_finite_x_ReferenceIdeal
public import proofs.«01_k».proof.Proof.Numbers
public import Idealize.ShloMosaic.Lib.ReduceAll
public import Idealize.ShloMosaic.Lib.IdealHost

@[expose] public section

set_option maxRecDepth 16384

noncomputable section

namespace Cert.Finite

open Idealize.ShloMosaic Cert.Numbers

/-- The shape relations of the predicate over a device's blocks, and over the whole arrays. -/
theorem facts_block : Cert.Pre_finite_x_KernelIdeal.Facts := ⟨by decide, by decide, by decide⟩
theorem facts_whole : Cert.Pre_finite_x_ReferenceIdeal.Facts := ⟨by decide, by decide, by decide⟩

/-- An extended real whose absolute value is below infinity is a real number. -/
theorem real_of_abs_lt {a : EReal} (h : max a (-a) < ⊤) : ∃ v : ℝ, a = v := by
  induction a with
  | bot => simp at h
  | coe v => exact ⟨v, rfl⟩
  | top => simp at h

attribute [local instance] facts_block in
/-- Where the predicate holds of a device's block, every element of the block is a real number. -/
theorem real_block (x : FVec Ideal Cert.Pre_finite_x_KernelIdeal.S2x4096x512 .f32) (e : FVec Ideal Cert.Pre_finite_x_KernelIdeal.S2x128 .f32)
    (w wh : FVec Ideal Cert.Pre_finite_x_KernelIdeal.S128x512 .f32)
    (h : Cert.Pre_finite_x_KernelIdeal.fn x e w wh = fun _ => 1#1) (i : Cert.Pre_finite_x_KernelIdeal.S2x4096x512.Idx) : ∃ v : ℝ, x i = v := by
  have : Subsingleton Cert.Pre_finite_x_KernelIdeal.S_.Idx := ⟨fun a b => funext fun k => k.elim0⟩
  have h1 := Host.reduce_andi_all _ _ _ _ _ (congrFun h (fun k => k.elim0)) i
  have h2 : Ideal.cmp .olt (max (x i) (-(x i))) (Ideal.ofBits .f32 0x7F800000#32) = 1#1 := h1
  rw [top_bits] at h2
  refine real_of_abs_lt ?_
  by_contra hn
  simp [Ideal.cmp, hn] at h2

end Cert.Finite

end
-- ==== Proof.Algebraic.lean ====
/-
# The kernel computes the reference

Where the devices hold the blocks of the reference's arrays, the sums over a device's columns and then over the devices are the
sums over the whole row. So each device's element of the result is the reference's, whose rows are of real numbers.
-/
module

public import proofs.«01_k».proof.Defs
public import proofs.«01_k».proof.Proof.Frames
public import proofs.«01_k».proof.Proof.Value
public import proofs.«01_k».proof.Proof.Reference
public import proofs.«01_k».proof.Proof.Finite

@[expose] public section

set_option maxRecDepth 16384

noncomputable section

namespace Cert.Algebraic

open Idealize.ShloMosaic Idealize.SL.Sem Cert.Numbers Cert.Value

attribute [local instance] Cert.KernelIdeal.Gen.facts Cert.ReferenceIdeal.Gen.facts Cert.Finite.facts_block Cert.Finite.facts_whole

/-- Column `l` of device `d`'s block, among all columns. -/
def col (d : Fin 8) (l : Fin 512) : Fin 4096 := ⟨d.val * 512 + l.val, by omega⟩

/-- A sum over every device's columns is a sum over all columns. -/
theorem sum_cols (f : Fin 4096 → EReal) : ∑ d : Fin 8, ∑ l : Fin 512, f (col d l) = ∑ j : Fin 4096, f j := by
  rw [← Equiv.sum_comp (finProdFinEquiv (m := 8) (n := 512)) f, Fintype.sum_prod_type]
  refine Finset.sum_congr rfl fun d _ => Finset.sum_congr rfl fun l _ => congrArg f (Fin.ext ?_)
  show d.val * 512 + l.val = l.val + 512 * d.val
  omega

/-- Every column is a column of some device's block. -/
theorem col_split (j : Fin 4096) : ∃ d l, j = col d l :=
  ⟨⟨j.val / 512, by omega⟩, ⟨j.val % 512, Nat.mod_lt _ (by decide)⟩, Fin.ext (by show j.val = j.val / 512 * 512 + j.val % 512; omega)⟩

theorem block3_at {α : Type} (c : Fin 8) (v : (⟨3, ![2, 4096, 4096]⟩ : Shape).Idx → α) (b : Fin 2) (r : Fin 4096) (l : Fin 512) :
    Layout.block ⟨3, ![2, 4096, 512]⟩ ⟨3, ![2, 4096, 4096]⟩ 2 8 c v (by decide) (ix3 b r l) = v (ix3 b r (col c l)) :=
  congrArg v (funext fun a => Fin.ext (by fin_cases a <;> rfl))
theorem block2_at {α : Type} (c : Fin 8) (v : (⟨2, ![128, 4096]⟩ : Shape).Idx → α) (k : Fin 128) (l : Fin 512) :
    Layout.block ⟨2, ![128, 512]⟩ ⟨2, ![128, 4096]⟩ 1 8 c v (by decide) (ix2 k l) = v (ix2 k (col c l)) :=
  congrArg v (funext fun a => Fin.ext (by fin_cases a <;> rfl))

section

variable (m : (ℓ : Loc Cert.KernelIdeal.nD Cert.KernelIdeal.τ Cert.KernelIdeal.sig) → Buf (Elt Ideal) ℓ)
  (X : FVec Ideal Cert.ReferenceIdeal.S2x4096x4096 .f32) (E : FVec Ideal Cert.ReferenceIdeal.S2x128 .f32)
  (WS WH : FVec Ideal Cert.ReferenceIdeal.S128x4096 .f32)

/-- Where the devices hold the blocks of the whole arrays and the row is of real numbers, a device's element of the kernel's
    result is the reference's. -/
theorem element_eq (hx : ∀ c b r l, x m c (ix3 b r l) = X (ix3 b r (col c l))) (he : ∀ c, e m c = E)
    (hws : ∀ c k l, ws m c (ix2 k l) = WS (ix2 k (col c l))) (hwh : ∀ c k l, wh m c (ix2 k l) = WH (ix2 k (col c l)))
    (hreal : ∀ b r j, ∃ v : ℝ, X (ix3 b r j) = v) (c : Fin 8) (b : Fin 2) (r : Fin 4096) (l : Fin 512) :
    element m c b r l = Cert.Reference.result X E WS WH (ix3 b r (col c l)) := by
  choose g hg using hreal b r
  rw [Cert.Reference.result_at, ← normalised (fun j => X (ix3 b r j)) g hg (col c l)]
  unfold element
  simp only [hx, he, hws, hwh]
  rw [sum_cols (fun j => X (ix3 b r j)), sum_cols (fun j => X (ix3 b r j) * X (ix3 b r j))]

end

/-- From blocks of the reference's arrays, with `x` finite, the kernel leaves the blocks of the reference's result. -/
theorem algebraic : Cert.algebraic_KernelIdeal_ReferenceIdeal_pre_finite_x_KernelIdeal := fun m g m' g' hpre hblk => by
  refine ⟨_, (θ_run Cert.KernelIdeal.defs _ _).mono (fun r h c => ⟨?_, ?_⟩) (Cert.KernelIdeal.Run.run_main (F := Ideal) m g),
    (θ_run Cert.ReferenceIdeal.defs _ _).mono (fun r h => h 0) (Cert.Reference.run_result m' g')⟩
  · refine (h.1 c (4 : Fin 5)).trans ((Cert.KernelIdeal.Run.finalA_out m g c).trans (funext fun i => ?_))
    rw [eq_ix3 i]
    refine (outAt_at m c _ _ _).trans (Eq.trans ?_ (block3_at c _ _ _ _).symm)
    refine element_eq m _ _ _ _ (fun c b r l => ?_) (fun c => (hblk c).2.1) (fun c k l => ?_) (fun c k l => ?_) (fun b r j => ?_) c _ _ _
    · exact (congrFun (hblk c).1 _).trans (block3_at c _ b r l)
    · exact (congrFun (hblk c).2.2.1 _).trans (block2_at c _ k l)
    · exact (congrFun (hblk c).2.2.2 _).trans (block2_at c _ k l)
    · obtain ⟨d, l, rfl⟩ := col_split j
      obtain ⟨v, hv⟩ := Cert.Finite.real_block _ _ _ _ (hpre d) (ix3 b r l)
      exact ⟨v, ((congrFun (hblk d).1 _).trans (block3_at d _ b r l)).symm.trans hv⟩
  · exact ⟨(h.1 c (0 : Fin 5)).trans (Cert.KernelIdeal.Run.finalA_in m g c (0 : Fin 5) rfl), (h.1 c (1 : Fin 5)).trans (Cert.KernelIdeal.Run.finalA_in m g c (1 : Fin 5) rfl),
      (h.1 c (2 : Fin 5)).trans (Cert.KernelIdeal.Run.finalA_in m g c (2 : Fin 5) rfl), (h.1 c (3 : Fin 5)).trans (Cert.KernelIdeal.Run.finalA_in m g c (3 : Fin 5) rfl)⟩

end Cert.Algebraic

end
-- ==== Proof.lean ====
/-
# The claim

Assembled from the frames of the three programs and from the equality of the kernel's result with the reference's.
-/
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal

@[expose] public section

noncomputable section

namespace Cert.Proof

theorem claim : Cert.Claim :=
  ⟨Cert.Kernel.Gen.facts, Cert.KernelIdeal.Gen.facts, Cert.ReferenceIdeal.Gen.facts, Cert.Finite.facts_block, Cert.Finite.facts_whole,
    Cert.Frames.frame_kernel, Cert.Frames.frame_ideal, fun m g _ => Cert.Frames.frame_ideal m g trivial,
    Cert.Frames.frame_reference, fun m g _ => Cert.Frames.frame_reference m g trivial,
    trivial, Cert.Algebraic.algebraic⟩

end Cert.Proof

end
